-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x2048 : Shape := ⟨2, ![4096, 2048]⟩
abbrev S4096x128 : Shape := ⟨2, ![4096, 128]⟩
abbrev S256x2048 : Shape := ⟨2, ![256, 2048]⟩
abbrev S16x128 : Shape := ⟨2, ![16, 128]⟩
abbrev S16x256x128 : Shape := ⟨3, ![16, 256, 128]⟩
abbrev S16 : Shape := ⟨1, ![16]⟩
abbrev S_ : Shape := ⟨0, ![]⟩
abbrev S1x256x2048 : Shape := ⟨3, ![1, 256, 2048]⟩
abbrev S1 : Shape := ⟨1, ![1]⟩
abbrev S1x1x1 : Shape := ⟨3, ![1, 1, 1]⟩
abbrev S1x128 : Shape := ⟨2, ![1, 128]⟩
abbrev S1x256x128 : Shape := ⟨3, ![1, 256, 128]⟩
abbrev S256x128 : Shape := ⟨2, ![256, 128]⟩
abbrev S1x16x128 : Shape := ⟨3, ![1, 16, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x4096, .f32⟩
  | .hbm, ⟨1, _⟩ => ⟨S4096x2048, .f32⟩
  | .hbm, ⟨2, _⟩ => ⟨S4096x128, .f32⟩
  | .local _ .vmem, ⟨0, _⟩ => ⟨S256x4096, .f32⟩
  | .local _ .vmem, ⟨1, _⟩ => ⟨S4096x2048, .f32⟩
  | .local _ .vmem, ⟨2, _⟩ => ⟨S4096x128, .f32⟩
  | .local _ .vmem, ⟨3, _⟩ => ⟨S256x2048, .f32⟩
  | .local _ .vmem, ⟨4, _⟩ => ⟨S16x128, .f32⟩
  | .local _ .vmem, ⟨5, _⟩ => ⟨S16x256x128, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_144 : BitVec 32) : Fin 2 → Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v216 : BitVec 32 := Scalar.addi v2 c1_i32_144
  let c16_i32_145 : BitVec 32 := 16#32
  let c0_i32_146 : BitVec 32 := 0#32
  let v217 : BitVec 1 := Scalar.cmpi .eq c16_i32_145 c0_i32_146
  let c1_i32_147 : BitVec 32 := 1#32
  let v218 : BitVec 32 := Scalar.select v217 c1_i32_147 c16_i32_145
  let v219 : BitVec 32 := Scalar.remsi v216 v218
  let c0_i32_149 : BitVec 32 := 0#32
  let v221 : BitVec 1 := Scalar.cmpi .slt v219 c0_i32_149
  let c0_i32_150 : BitVec 32 := 0#32
  let v222 : BitVec 1 := Scalar.cmpi .slt v218 c0_i32_150
  let v223 : BitVec 1 := Scalar.xori v221 v222
  let c0_i32_148 : BitVec 32 := 0#32
  let v220 : BitVec 1 := Scalar.cmpi .ne v219 c0_i32_148
  let v224 : BitVec 1 := Scalar.andi v223 v220
  let v225 : BitVec 32 := Scalar.addi v219 v218
  let v226 : BitVec 32 := Scalar.select v224 v225 v219
  let c128_i32 : BitVec 32 := 128#32
  let v227 : BitVec 32 := Scalar.muli v226 c128_i32
  ![0, v227.toNat]
def k0_dev16 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_144 : BitVec 32 := 1#32
  let v216 : BitVec 32 := Scalar.addi v2 c1_i32_144
  let c16_i32_145 : BitVec 32 := 16#32
  let c0_i32_146 : BitVec 32 := 0#32
  let v217 : BitVec 1 := Scalar.cmpi .eq c16_i32_145 c0_i32_146
  let c1_i32_147 : BitVec 32 := 1#32
  let v218 : BitVec 32 := Scalar.select v217 c1_i32_147 c16_i32_145
  let v219 : BitVec 32 := Scalar.remsi v216 v218
  let c0_i32_149 : BitVec 32 := 0#32
  let v221 : BitVec 1 := Scalar.cmpi .slt v219 c0_i32_149
  let c0_i32_150 : BitVec 32 := 0#32
  let v222 : BitVec 1 := Scalar.cmpi .slt v218 c0_i32_150
  let v223 : BitVec 1 := Scalar.xori v221 v222
  let c0_i32_148 : BitVec 32 := 0#32
  let v220 : BitVec 1 := Scalar.cmpi .ne v219 c0_i32_148
  let v224 : BitVec 1 := Scalar.andi v223 v220
  let v225 : BitVec 32 := Scalar.addi v219 v218
  let v226 : BitVec 32 := Scalar.select v224 v225 v219
  let c1_i32_154 : BitVec 32 := 1#32
  let v228 : BitVec 32 := Scalar.muli v226 c1_i32_154
  let v229 : BitVec 32 := Scalar.addi c0_i32_155 v228
  v229.toNat
def k0_dev17 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_144 : BitVec 32 := 1#32
  let v216 : BitVec 32 := Scalar.addi v2 c1_i32_144
  let c16_i32_145 : BitVec 32 := 16#32
  let c0_i32_146 : BitVec 32 := 0#32
  let v217 : BitVec 1 := Scalar.cmpi .eq c16_i32_145 c0_i32_146
  let c1_i32_147 : BitVec 32 := 1#32
  let v218 : BitVec 32 := Scalar.select v217 c1_i32_147 c16_i32_145
  let v219 : BitVec 32 := Scalar.remsi v216 v218
  let c0_i32_149 : BitVec 32 := 0#32
  let v221 : BitVec 1 := Scalar.cmpi .slt v219 c0_i32_149
  let c0_i32_150 : BitVec 32 := 0#32
  let v222 : BitVec 1 := Scalar.cmpi .slt v218 c0_i32_150
  let v223 : BitVec 1 := Scalar.xori v221 v222
  let c0_i32_148 : BitVec 32 := 0#32
  let v220 : BitVec 1 := Scalar.cmpi .ne v219 c0_i32_148
  let v224 : BitVec 1 := Scalar.andi v223 v220
  let v225 : BitVec 32 := Scalar.addi v219 v218
  let v226 : BitVec 32 := Scalar.select v224 v225 v219
  let c1_i32_161 : BitVec 32 := 1#32
  let v237 : BitVec 32 := Scalar.muli v226 c1_i32_161
  let v238 : BitVec 32 := Scalar.addi c0_i32_162 v237
  v238.toNat
def k0_dev18 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_167 : BitVec 32 := 2#32
  let v245 : BitVec 32 := Scalar.addi v2 c2_i32_167
  let c16_i32_168 : BitVec 32 := 16#32
  let c0_i32_169 : BitVec 32 := 0#32
  let v246 : BitVec 1 := Scalar.cmpi .eq c16_i32_168 c0_i32_169
  let c1_i32_170 : BitVec 32 := 1#32
  let v247 : BitVec 32 := Scalar.select v246 c1_i32_170 c16_i32_168
  let v248 : BitVec 32 := Scalar.remsi v245 v247
  let c0_i32_172 : BitVec 32 := 0#32
  let v250 : BitVec 1 := Scalar.cmpi .slt v248 c0_i32_172
  let c0_i32_173 : BitVec 32 := 0#32
  let v251 : BitVec 1 := Scalar.cmpi .slt v247 c0_i32_173
  let v252 : BitVec 1 := Scalar.xori v250 v251
  let c0_i32_171 : BitVec 32 := 0#32
  let v249 : BitVec 1 := Scalar.cmpi .ne v248 c0_i32_171
  let v253 : BitVec 1 := Scalar.andi v252 v249
  let v254 : BitVec 32 := Scalar.addi v248 v247
  let v255 : BitVec 32 := Scalar.select v253 v254 v248
  let c1_i32_178 : BitVec 32 := 1#32
  let v257 : BitVec 32 := Scalar.muli v255 c1_i32_178
  let v258 : BitVec 32 := Scalar.addi c0_i32_179 v257
  v258.toNat
def k0_dev19 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_167 : BitVec 32 := 2#32
  let v245 : BitVec 32 := Scalar.addi v2 c2_i32_167
  let c16_i32_168 : BitVec 32 := 16#32
  let c0_i32_169 : BitVec 32 := 0#32
  let v246 : BitVec 1 := Scalar.cmpi .eq c16_i32_168 c0_i32_169
  let c1_i32_170 : BitVec 32 := 1#32
  let v247 : BitVec 32 := Scalar.select v246 c1_i32_170 c16_i32_168
  let v248 : BitVec 32 := Scalar.remsi v245 v247
  let c0_i32_172 : BitVec 32 := 0#32
  let v250 : BitVec 1 := Scalar.cmpi .slt v248 c0_i32_172
  let c0_i32_173 : BitVec 32 := 0#32
  let v251 : BitVec 1 := Scalar.cmpi .slt v247 c0_i32_173
  let v252 : BitVec 1 := Scalar.xori v250 v251
  let c0_i32_171 : BitVec 32 := 0#32
  let v249 : BitVec 1 := Scalar.cmpi .ne v248 c0_i32_171
  let v253 : BitVec 1 := Scalar.andi v252 v249
  let v254 : BitVec 32 := Scalar.addi v248 v247
  let v255 : BitVec 32 := Scalar.select v253 v254 v248
  let c1_i32_185 : BitVec 32 := 1#32
  let v266 : BitVec 32 := Scalar.muli v255 c1_i32_185
  let v267 : BitVec 32 := Scalar.addi c0_i32_186 v266
  v267.toNat
def k0_dev20 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_191 : BitVec 32 := 3#32
  let v274 : BitVec 32 := Scalar.addi v2 c3_i32_191
  let c16_i32_192 : BitVec 32 := 16#32
  let c0_i32_193 : BitVec 32 := 0#32
  let v275 : BitVec 1 := Scalar.cmpi .eq c16_i32_192 c0_i32_193
  let c1_i32_194 : BitVec 32 := 1#32
  let v276 : BitVec 32 := Scalar.select v275 c1_i32_194 c16_i32_192
  let v277 : BitVec 32 := Scalar.remsi v274 v276
  let c0_i32_196 : BitVec 32 := 0#32
  let v279 : BitVec 1 := Scalar.cmpi .slt v277 c0_i32_196
  let c0_i32_197 : BitVec 32 := 0#32
  let v280 : BitVec 1 := Scalar.cmpi .slt v276 c0_i32_197
  let v281 : BitVec 1 := Scalar.xori v279 v280
  let c0_i32_195 : BitVec 32 := 0#32
  let v278 : BitVec 1 := Scalar.cmpi .ne v277 c0_i32_195
  let v282 : BitVec 1 := Scalar.andi v281 v278
  let v283 : BitVec 32 := Scalar.addi v277 v276
  let v284 : BitVec 32 := Scalar.select v282 v283 v277
  let c1_i32_202 : BitVec 32 := 1#32
  let v286 : BitVec 32 := Scalar.muli v284 c1_i32_202
  let v287 : BitVec 32 := Scalar.addi c0_i32_203 v286
  v287.toNat
def k0_dev21 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_191 : BitVec 32 := 3#32
  let v274 : BitVec 32 := Scalar.addi v2 c3_i32_191
  let c16_i32_192 : BitVec 32 := 16#32
  let c0_i32_193 : BitVec 32 := 0#32
  let v275 : BitVec 1 := Scalar.cmpi .eq c16_i32_192 c0_i32_193
  let c1_i32_194 : BitVec 32 := 1#32
  let v276 : BitVec 32 := Scalar.select v275 c1_i32_194 c16_i32_192
  let v277 : BitVec 32 := Scalar.remsi v274 v276
  let c0_i32_196 : BitVec 32 := 0#32
  let v279 : BitVec 1 := Scalar.cmpi .slt v277 c0_i32_196
  let c0_i32_197 : BitVec 32 := 0#32
  let v280 : BitVec 1 := Scalar.cmpi .slt v276 c0_i32_197
  let v281 : BitVec 1 := Scalar.xori v279 v280
  let c0_i32_195 : BitVec 32 := 0#32
  let v278 : BitVec 1 := Scalar.cmpi .ne v277 c0_i32_195
  let v282 : BitVec 1 := Scalar.andi v281 v278
  let v283 : BitVec 32 := Scalar.addi v277 v276
  let v284 : BitVec 32 := Scalar.select v282 v283 v277
  let c1_i32_209 : BitVec 32 := 1#32
  let v295 : BitVec 32 := Scalar.muli v284 c1_i32_209
  let v296 : BitVec 32 := Scalar.addi c0_i32_210 v295
  v296.toNat
def k0_dev22 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_215 : BitVec 32 := 4#32
  let v303 : BitVec 32 := Scalar.addi v2 c4_i32_215
  let c16_i32_216 : BitVec 32 := 16#32
  let c0_i32_217 : BitVec 32 := 0#32
  let v304 : BitVec 1 := Scalar.cmpi .eq c16_i32_216 c0_i32_217
  let c1_i32_218 : BitVec 32 := 1#32
  let v305 : BitVec 32 := Scalar.select v304 c1_i32_218 c16_i32_216
  let v306 : BitVec 32 := Scalar.remsi v303 v305
  let c0_i32_220 : BitVec 32 := 0#32
  let v308 : BitVec 1 := Scalar.cmpi .slt v306 c0_i32_220
  let c0_i32_221 : BitVec 32 := 0#32
  let v309 : BitVec 1 := Scalar.cmpi .slt v305 c0_i32_221
  let v310 : BitVec 1 := Scalar.xori v308 v309
  let c0_i32_219 : BitVec 32 := 0#32
  let v307 : BitVec 1 := Scalar.cmpi .ne v306 c0_i32_219
  let v311 : BitVec 1 := Scalar.andi v310 v307
  let v312 : BitVec 32 := Scalar.addi v306 v305
  let v313 : BitVec 32 := Scalar.select v311 v312 v306
  let c1_i32_226 : BitVec 32 := 1#32
  let v315 : BitVec 32 := Scalar.muli v313 c1_i32_226
  let v316 : BitVec 32 := Scalar.addi c0_i32_227 v315
  v316.toNat
def k0_dev23 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_215 : BitVec 32 := 4#32
  let v303 : BitVec 32 := Scalar.addi v2 c4_i32_215
  let c16_i32_216 : BitVec 32 := 16#32
  let c0_i32_217 : BitVec 32 := 0#32
  let v304 : BitVec 1 := Scalar.cmpi .eq c16_i32_216 c0_i32_217
  let c1_i32_218 : BitVec 32 := 1#32
  let v305 : BitVec 32 := Scalar.select v304 c1_i32_218 c16_i32_216
  let v306 : BitVec 32 := Scalar.remsi v303 v305
  let c0_i32_220 : BitVec 32 := 0#32
  let v308 : BitVec 1 := Scalar.cmpi .slt v306 c0_i32_220
  let c0_i32_221 : BitVec 32 := 0#32
  let v309 : BitVec 1 := Scalar.cmpi .slt v305 c0_i32_221
  let v310 : BitVec 1 := Scalar.xori v308 v309
  let c0_i32_219 : BitVec 32 := 0#32
  let v307 : BitVec 1 := Scalar.cmpi .ne v306 c0_i32_219
  let v311 : BitVec 1 := Scalar.andi v310 v307
  let v312 : BitVec 32 := Scalar.addi v306 v305
  let v313 : BitVec 32 := Scalar.select v311 v312 v306
  let c1_i32_233 : BitVec 32 := 1#32
  let v324 : BitVec 32 := Scalar.muli v313 c1_i32_233
  let v325 : BitVec 32 := Scalar.addi c0_i32_234 v324
  v325.toNat
def k0_dev24 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_239 : BitVec 32 := 5#32
  let v332 : BitVec 32 := Scalar.addi v2 c5_i32_239
  let c16_i32_240 : BitVec 32 := 16#32
  let c0_i32_241 : BitVec 32 := 0#32
  let v333 : BitVec 1 := Scalar.cmpi .eq c16_i32_240 c0_i32_241
  let c1_i32_242 : BitVec 32 := 1#32
  let v334 : BitVec 32 := Scalar.select v333 c1_i32_242 c16_i32_240
  let v335 : BitVec 32 := Scalar.remsi v332 v334
  let c0_i32_244 : BitVec 32 := 0#32
  let v337 : BitVec 1 := Scalar.cmpi .slt v335 c0_i32_244
  let c0_i32_245 : BitVec 32 := 0#32
  let v338 : BitVec 1 := Scalar.cmpi .slt v334 c0_i32_245
  let v339 : BitVec 1 := Scalar.xori v337 v338
  let c0_i32_243 : BitVec 32 := 0#32
  let v336 : BitVec 1 := Scalar.cmpi .ne v335 c0_i32_243
  let v340 : BitVec 1 := Scalar.andi v339 v336
  let v341 : BitVec 32 := Scalar.addi v335 v334
  let v342 : BitVec 32 := Scalar.select v340 v341 v335
  let c1_i32_250 : BitVec 32 := 1#32
  let v344 : BitVec 32 := Scalar.muli v342 c1_i32_250
  let v345 : BitVec 32 := Scalar.addi c0_i32_251 v344
  v345.toNat
def k0_dev25 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_239 : BitVec 32 := 5#32
  let v332 : BitVec 32 := Scalar.addi v2 c5_i32_239
  let c16_i32_240 : BitVec 32 := 16#32
  let c0_i32_241 : BitVec 32 := 0#32
  let v333 : BitVec 1 := Scalar.cmpi .eq c16_i32_240 c0_i32_241
  let c1_i32_242 : BitVec 32 := 1#32
  let v334 : BitVec 32 := Scalar.select v333 c1_i32_242 c16_i32_240
  let v335 : BitVec 32 := Scalar.remsi v332 v334
  let c0_i32_244 : BitVec 32 := 0#32
  let v337 : BitVec 1 := Scalar.cmpi .slt v335 c0_i32_244
  let c0_i32_245 : BitVec 32 := 0#32
  let v338 : BitVec 1 := Scalar.cmpi .slt v334 c0_i32_245
  let v339 : BitVec 1 := Scalar.xori v337 v338
  let c0_i32_243 : BitVec 32 := 0#32
  let v336 : BitVec 1 := Scalar.cmpi .ne v335 c0_i32_243
  let v340 : BitVec 1 := Scalar.andi v339 v336
  let v341 : BitVec 32 := Scalar.addi v335 v334
  let v342 : BitVec 32 := Scalar.select v340 v341 v335
  let c1_i32_257 : BitVec 32 := 1#32
  let v353 : BitVec 32 := Scalar.muli v342 c1_i32_257
  let v354 : BitVec 32 := Scalar.addi c0_i32_258 v353
  v354.toNat
def k0_dev26 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_263 : BitVec 32 := 6#32
  let v361 : BitVec 32 := Scalar.addi v2 c6_i32_263
  let c16_i32_264 : BitVec 32 := 16#32
  let c0_i32_265 : BitVec 32 := 0#32
  let v362 : BitVec 1 := Scalar.cmpi .eq c16_i32_264 c0_i32_265
  let c1_i32_266 : BitVec 32 := 1#32
  let v363 : BitVec 32 := Scalar.select v362 c1_i32_266 c16_i32_264
  let v364 : BitVec 32 := Scalar.remsi v361 v363
  let c0_i32_268 : BitVec 32 := 0#32
  let v366 : BitVec 1 := Scalar.cmpi .slt v364 c0_i32_268
  let c0_i32_269 : BitVec 32 := 0#32
  let v367 : BitVec 1 := Scalar.cmpi .slt v363 c0_i32_269
  let v368 : BitVec 1 := Scalar.xori v366 v367
  let c0_i32_267 : BitVec 32 := 0#32
  let v365 : BitVec 1 := Scalar.cmpi .ne v364 c0_i32_267
  let v369 : BitVec 1 := Scalar.andi v368 v365
  let v370 : BitVec 32 := Scalar.addi v364 v363
  let v371 : BitVec 32 := Scalar.select v369 v370 v364
  let c1_i32_274 : BitVec 32 := 1#32
  let v373 : BitVec 32 := Scalar.muli v371 c1_i32_274
  let v374 : BitVec 32 := Scalar.addi c0_i32_275 v373
  v374.toNat
def k0_dev27 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_263 : BitVec 32 := 6#32
  let v361 : BitVec 32 := Scalar.addi v2 c6_i32_263
  let c16_i32_264 : BitVec 32 := 16#32
  let c0_i32_265 : BitVec 32 := 0#32
  let v362 : BitVec 1 := Scalar.cmpi .eq c16_i32_264 c0_i32_265
  let c1_i32_266 : BitVec 32 := 1#32
  let v363 : BitVec 32 := Scalar.select v362 c1_i32_266 c16_i32_264
  let v364 : BitVec 32 := Scalar.remsi v361 v363
  let c0_i32_268 : BitVec 32 := 0#32
  let v366 : BitVec 1 := Scalar.cmpi .slt v364 c0_i32_268
  let c0_i32_269 : BitVec 32 := 0#32
  let v367 : BitVec 1 := Scalar.cmpi .slt v363 c0_i32_269
  let v368 : BitVec 1 := Scalar.xori v366 v367
  let c0_i32_267 : BitVec 32 := 0#32
  let v365 : BitVec 1 := Scalar.cmpi .ne v364 c0_i32_267
  let v369 : BitVec 1 := Scalar.andi v368 v365
  let v370 : BitVec 32 := Scalar.addi v364 v363
  let v371 : BitVec 32 := Scalar.select v369 v370 v364
  let c1_i32_281 : BitVec 32 := 1#32
  let v382 : BitVec 32 := Scalar.muli v371 c1_i32_281
  let v383 : BitVec 32 := Scalar.addi c0_i32_282 v382
  v383.toNat
def k0_dev28 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_287 : BitVec 32 := 7#32
  let v390 : BitVec 32 := Scalar.addi v2 c7_i32_287
  let c16_i32_288 : BitVec 32 := 16#32
  let c0_i32_289 : BitVec 32 := 0#32
  let v391 : BitVec 1 := Scalar.cmpi .eq c16_i32_288 c0_i32_289
  let c1_i32_290 : BitVec 32 := 1#32
  let v392 : BitVec 32 := Scalar.select v391 c1_i32_290 c16_i32_288
  let v393 : BitVec 32 := Scalar.remsi v390 v392
  let c0_i32_292 : BitVec 32 := 0#32
  let v395 : BitVec 1 := Scalar.cmpi .slt v393 c0_i32_292
  let c0_i32_293 : BitVec 32 := 0#32
  let v396 : BitVec 1 := Scalar.cmpi .slt v392 c0_i32_293
  let v397 : BitVec 1 := Scalar.xori v395 v396
  let c0_i32_291 : BitVec 32 := 0#32
  let v394 : BitVec 1 := Scalar.cmpi .ne v393 c0_i32_291
  let v398 : BitVec 1 := Scalar.andi v397 v394
  let v399 : BitVec 32 := Scalar.addi v393 v392
  let v400 : BitVec 32 := Scalar.select v398 v399 v393
  let c1_i32_298 : BitVec 32 := 1#32
  let v402 : BitVec 32 := Scalar.muli v400 c1_i32_298
  let v403 : BitVec 32 := Scalar.addi c0_i32_299 v402
  v403.toNat
def k0_dev29 (d0 : Dev nD) : Nat :=
  let c0_i32_306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_287 : BitVec 32 := 7#32
  let v390 : BitVec 32 := Scalar.addi v2 c7_i32_287
  let c16_i32_288 : BitVec 32 := 16#32
  let c0_i32_289 : BitVec 32 := 0#32
  let v391 : BitVec 1 := Scalar.cmpi .eq c16_i32_288 c0_i32_289
  let c1_i32_290 : BitVec 32 := 1#32
  let v392 : BitVec 32 := Scalar.select v391 c1_i32_290 c16_i32_288
  let v393 : BitVec 32 := Scalar.remsi v390 v392
  let c0_i32_292 : BitVec 32 := 0#32
  let v395 : BitVec 1 := Scalar.cmpi .slt v393 c0_i32_292
  let c0_i32_293 : BitVec 32 := 0#32
  let v396 : BitVec 1 := Scalar.cmpi .slt v392 c0_i32_293
  let v397 : BitVec 1 := Scalar.xori v395 v396
  let c0_i32_291 : BitVec 32 := 0#32
  let v394 : BitVec 1 := Scalar.cmpi .ne v393 c0_i32_291
  let v398 : BitVec 1 := Scalar.andi v397 v394
  let v399 : BitVec 32 := Scalar.addi v393 v392
  let v400 : BitVec 32 := Scalar.select v398 v399 v393
  let c1_i32_305 : BitVec 32 := 1#32
  let v411 : BitVec 32 := Scalar.muli v400 c1_i32_305
  let v412 : BitVec 32 := Scalar.addi c0_i32_306 v411
  v412.toNat
def k0_dev30 (d0 : Dev nD) : Nat :=
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_311 : BitVec 32 := 8#32
  let v419 : BitVec 32 := Scalar.addi v2 c8_i32_311
  let c16_i32_312 : BitVec 32 := 16#32
  let c0_i32_313 : BitVec 32 := 0#32
  let v420 : BitVec 1 := Scalar.cmpi .eq c16_i32_312 c0_i32_313
  let c1_i32_314 : BitVec 32 := 1#32
  let v421 : BitVec 32 := Scalar.select v420 c1_i32_314 c16_i32_312
  let v422 : BitVec 32 := Scalar.remsi v419 v421
  let c0_i32_316 : BitVec 32 := 0#32
  let v424 : BitVec 1 := Scalar.cmpi .slt v422 c0_i32_316
  let c0_i32_317 : BitVec 32 := 0#32
  let v425 : BitVec 1 := Scalar.cmpi .slt v421 c0_i32_317
  let v426 : BitVec 1 := Scalar.xori v424 v425
  let c0_i32_315 : BitVec 32 := 0#32
  let v423 : BitVec 1 := Scalar.cmpi .ne v422 c0_i32_315
  let v427 : BitVec 1 := Scalar.andi v426 v423
  let v428 : BitVec 32 := Scalar.addi v422 v421
  let v429 : BitVec 32 := Scalar.select v427 v428 v422
  let c1_i32_322 : BitVec 32 := 1#32
  let v431 : BitVec 32 := Scalar.muli v429 c1_i32_322
  let v432 : BitVec 32 := Scalar.addi c0_i32_323 v431
  v432.toNat
def k0_dev31 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_311 : BitVec 32 := 8#32
  let v419 : BitVec 32 := Scalar.addi v2 c8_i32_311
  let c16_i32_312 : BitVec 32 := 16#32
  let c0_i32_313 : BitVec 32 := 0#32
  let v420 : BitVec 1 := Scalar.cmpi .eq c16_i32_312 c0_i32_313
  let c1_i32_314 : BitVec 32 := 1#32
  let v421 : BitVec 32 := Scalar.select v420 c1_i32_314 c16_i32_312
  let v422 : BitVec 32 := Scalar.remsi v419 v421
  let c0_i32_316 : BitVec 32 := 0#32
  let v424 : BitVec 1 := Scalar.cmpi .slt v422 c0_i32_316
  let c0_i32_317 : BitVec 32 := 0#32
  let v425 : BitVec 1 := Scalar.cmpi .slt v421 c0_i32_317
  let v426 : BitVec 1 := Scalar.xori v424 v425
  let c0_i32_315 : BitVec 32 := 0#32
  let v423 : BitVec 1 := Scalar.cmpi .ne v422 c0_i32_315
  let v427 : BitVec 1 := Scalar.andi v426 v423
  let v428 : BitVec 32 := Scalar.addi v422 v421
  let v429 : BitVec 32 := Scalar.select v427 v428 v422
  let c1_i32_329 : BitVec 32 := 1#32
  let v440 : BitVec 32 := Scalar.muli v429 c1_i32_329
  let v441 : BitVec 32 := Scalar.addi c0_i32_330 v440
  v441.toNat
def k0_dev32 (d0 : Dev nD) : Nat :=
  let c0_i32_347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_335 : BitVec 32 := 9#32
  let v448 : BitVec 32 := Scalar.addi v2 c9_i32_335
  let c16_i32_336 : BitVec 32 := 16#32
  let c0_i32_337 : BitVec 32 := 0#32
  let v449 : BitVec 1 := Scalar.cmpi .eq c16_i32_336 c0_i32_337
  let c1_i32_338 : BitVec 32 := 1#32
  let v450 : BitVec 32 := Scalar.select v449 c1_i32_338 c16_i32_336
  let v451 : BitVec 32 := Scalar.remsi v448 v450
  let c0_i32_340 : BitVec 32 := 0#32
  let v453 : BitVec 1 := Scalar.cmpi .slt v451 c0_i32_340
  let c0_i32_341 : BitVec 32 := 0#32
  let v454 : BitVec 1 := Scalar.cmpi .slt v450 c0_i32_341
  let v455 : BitVec 1 := Scalar.xori v453 v454
  let c0_i32_339 : BitVec 32 := 0#32
  let v452 : BitVec 1 := Scalar.cmpi .ne v451 c0_i32_339
  let v456 : BitVec 1 := Scalar.andi v455 v452
  let v457 : BitVec 32 := Scalar.addi v451 v450
  let v458 : BitVec 32 := Scalar.select v456 v457 v451
  let c1_i32_346 : BitVec 32 := 1#32
  let v460 : BitVec 32 := Scalar.muli v458 c1_i32_346
  let v461 : BitVec 32 := Scalar.addi c0_i32_347 v460
  v461.toNat
def k0_dev33 (d0 : Dev nD) : Nat :=
  let c0_i32_354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_335 : BitVec 32 := 9#32
  let v448 : BitVec 32 := Scalar.addi v2 c9_i32_335
  let c16_i32_336 : BitVec 32 := 16#32
  let c0_i32_337 : BitVec 32 := 0#32
  let v449 : BitVec 1 := Scalar.cmpi .eq c16_i32_336 c0_i32_337
  let c1_i32_338 : BitVec 32 := 1#32
  let v450 : BitVec 32 := Scalar.select v449 c1_i32_338 c16_i32_336
  let v451 : BitVec 32 := Scalar.remsi v448 v450
  let c0_i32_340 : BitVec 32 := 0#32
  let v453 : BitVec 1 := Scalar.cmpi .slt v451 c0_i32_340
  let c0_i32_341 : BitVec 32 := 0#32
  let v454 : BitVec 1 := Scalar.cmpi .slt v450 c0_i32_341
  let v455 : BitVec 1 := Scalar.xori v453 v454
  let c0_i32_339 : BitVec 32 := 0#32
  let v452 : BitVec 1 := Scalar.cmpi .ne v451 c0_i32_339
  let v456 : BitVec 1 := Scalar.andi v455 v452
  let v457 : BitVec 32 := Scalar.addi v451 v450
  let v458 : BitVec 32 := Scalar.select v456 v457 v451
  let c1_i32_353 : BitVec 32 := 1#32
  let v469 : BitVec 32 := Scalar.muli v458 c1_i32_353
  let v470 : BitVec 32 := Scalar.addi c0_i32_354 v469
  v470.toNat
def k0_dev34 (d0 : Dev nD) : Nat :=
  let c0_i32_371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_359 : BitVec 32 := 10#32
  let v477 : BitVec 32 := Scalar.addi v2 c10_i32_359
  let c16_i32_360 : BitVec 32 := 16#32
  let c0_i32_361 : BitVec 32 := 0#32
  let v478 : BitVec 1 := Scalar.cmpi .eq c16_i32_360 c0_i32_361
  let c1_i32_362 : BitVec 32 := 1#32
  let v479 : BitVec 32 := Scalar.select v478 c1_i32_362 c16_i32_360
  let v480 : BitVec 32 := Scalar.remsi v477 v479
  let c0_i32_364 : BitVec 32 := 0#32
  let v482 : BitVec 1 := Scalar.cmpi .slt v480 c0_i32_364
  let c0_i32_365 : BitVec 32 := 0#32
  let v483 : BitVec 1 := Scalar.cmpi .slt v479 c0_i32_365
  let v484 : BitVec 1 := Scalar.xori v482 v483
  let c0_i32_363 : BitVec 32 := 0#32
  let v481 : BitVec 1 := Scalar.cmpi .ne v480 c0_i32_363
  let v485 : BitVec 1 := Scalar.andi v484 v481
  let v486 : BitVec 32 := Scalar.addi v480 v479
  let v487 : BitVec 32 := Scalar.select v485 v486 v480
  let c1_i32_370 : BitVec 32 := 1#32
  let v489 : BitVec 32 := Scalar.muli v487 c1_i32_370
  let v490 : BitVec 32 := Scalar.addi c0_i32_371 v489
  v490.toNat
def k0_dev35 (d0 : Dev nD) : Nat :=
  let c0_i32_378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_359 : BitVec 32 := 10#32
  let v477 : BitVec 32 := Scalar.addi v2 c10_i32_359
  let c16_i32_360 : BitVec 32 := 16#32
  let c0_i32_361 : BitVec 32 := 0#32
  let v478 : BitVec 1 := Scalar.cmpi .eq c16_i32_360 c0_i32_361
  let c1_i32_362 : BitVec 32 := 1#32
  let v479 : BitVec 32 := Scalar.select v478 c1_i32_362 c16_i32_360
  let v480 : BitVec 32 := Scalar.remsi v477 v479
  let c0_i32_364 : BitVec 32 := 0#32
  let v482 : BitVec 1 := Scalar.cmpi .slt v480 c0_i32_364
  let c0_i32_365 : BitVec 32 := 0#32
  let v483 : BitVec 1 := Scalar.cmpi .slt v479 c0_i32_365
  let v484 : BitVec 1 := Scalar.xori v482 v483
  let c0_i32_363 : BitVec 32 := 0#32
  let v481 : BitVec 1 := Scalar.cmpi .ne v480 c0_i32_363
  let v485 : BitVec 1 := Scalar.andi v484 v481
  let v486 : BitVec 32 := Scalar.addi v480 v479
  let v487 : BitVec 32 := Scalar.select v485 v486 v480
  let c1_i32_377 : BitVec 32 := 1#32
  let v498 : BitVec 32 := Scalar.muli v487 c1_i32_377
  let v499 : BitVec 32 := Scalar.addi c0_i32_378 v498
  v499.toNat
def k0_dev36 (d0 : Dev nD) : Nat :=
  let c0_i32_395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_383 : BitVec 32 := 11#32
  let v506 : BitVec 32 := Scalar.addi v2 c11_i32_383
  let c16_i32_384 : BitVec 32 := 16#32
  let c0_i32_385 : BitVec 32 := 0#32
  let v507 : BitVec 1 := Scalar.cmpi .eq c16_i32_384 c0_i32_385
  let c1_i32_386 : BitVec 32 := 1#32
  let v508 : BitVec 32 := Scalar.select v507 c1_i32_386 c16_i32_384
  let v509 : BitVec 32 := Scalar.remsi v506 v508
  let c0_i32_388 : BitVec 32 := 0#32
  let v511 : BitVec 1 := Scalar.cmpi .slt v509 c0_i32_388
  let c0_i32_389 : BitVec 32 := 0#32
  let v512 : BitVec 1 := Scalar.cmpi .slt v508 c0_i32_389
  let v513 : BitVec 1 := Scalar.xori v511 v512
  let c0_i32_387 : BitVec 32 := 0#32
  let v510 : BitVec 1 := Scalar.cmpi .ne v509 c0_i32_387
  let v514 : BitVec 1 := Scalar.andi v513 v510
  let v515 : BitVec 32 := Scalar.addi v509 v508
  let v516 : BitVec 32 := Scalar.select v514 v515 v509
  let c1_i32_394 : BitVec 32 := 1#32
  let v518 : BitVec 32 := Scalar.muli v516 c1_i32_394
  let v519 : BitVec 32 := Scalar.addi c0_i32_395 v518
  v519.toNat
def k0_dev37 (d0 : Dev nD) : Nat :=
  let c0_i32_402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_383 : BitVec 32 := 11#32
  let v506 : BitVec 32 := Scalar.addi v2 c11_i32_383
  let c16_i32_384 : BitVec 32 := 16#32
  let c0_i32_385 : BitVec 32 := 0#32
  let v507 : BitVec 1 := Scalar.cmpi .eq c16_i32_384 c0_i32_385
  let c1_i32_386 : BitVec 32 := 1#32
  let v508 : BitVec 32 := Scalar.select v507 c1_i32_386 c16_i32_384
  let v509 : BitVec 32 := Scalar.remsi v506 v508
  let c0_i32_388 : BitVec 32 := 0#32
  let v511 : BitVec 1 := Scalar.cmpi .slt v509 c0_i32_388
  let c0_i32_389 : BitVec 32 := 0#32
  let v512 : BitVec 1 := Scalar.cmpi .slt v508 c0_i32_389
  let v513 : BitVec 1 := Scalar.xori v511 v512
  let c0_i32_387 : BitVec 32 := 0#32
  let v510 : BitVec 1 := Scalar.cmpi .ne v509 c0_i32_387
  let v514 : BitVec 1 := Scalar.andi v513 v510
  let v515 : BitVec 32 := Scalar.addi v509 v508
  let v516 : BitVec 32 := Scalar.select v514 v515 v509
  let c1_i32_401 : BitVec 32 := 1#32
  let v527 : BitVec 32 := Scalar.muli v516 c1_i32_401
  let v528 : BitVec 32 := Scalar.addi c0_i32_402 v527
  v528.toNat
def k0_dev38 (d0 : Dev nD) : Nat :=
  let c0_i32_419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_407 : BitVec 32 := 12#32
  let v535 : BitVec 32 := Scalar.addi v2 c12_i32_407
  let c16_i32_408 : BitVec 32 := 16#32
  let c0_i32_409 : BitVec 32 := 0#32
  let v536 : BitVec 1 := Scalar.cmpi .eq c16_i32_408 c0_i32_409
  let c1_i32_410 : BitVec 32 := 1#32
  let v537 : BitVec 32 := Scalar.select v536 c1_i32_410 c16_i32_408
  let v538 : BitVec 32 := Scalar.remsi v535 v537
  let c0_i32_412 : BitVec 32 := 0#32
  let v540 : BitVec 1 := Scalar.cmpi .slt v538 c0_i32_412
  let c0_i32_413 : BitVec 32 := 0#32
  let v541 : BitVec 1 := Scalar.cmpi .slt v537 c0_i32_413
  let v542 : BitVec 1 := Scalar.xori v540 v541
  let c0_i32_411 : BitVec 32 := 0#32
  let v539 : BitVec 1 := Scalar.cmpi .ne v538 c0_i32_411
  let v543 : BitVec 1 := Scalar.andi v542 v539
  let v544 : BitVec 32 := Scalar.addi v538 v537
  let v545 : BitVec 32 := Scalar.select v543 v544 v538
  let c1_i32_418 : BitVec 32 := 1#32
  let v547 : BitVec 32 := Scalar.muli v545 c1_i32_418
  let v548 : BitVec 32 := Scalar.addi c0_i32_419 v547
  v548.toNat
def k0_dev39 (d0 : Dev nD) : Nat :=
  let c0_i32_426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_407 : BitVec 32 := 12#32
  let v535 : BitVec 32 := Scalar.addi v2 c12_i32_407
  let c16_i32_408 : BitVec 32 := 16#32
  let c0_i32_409 : BitVec 32 := 0#32
  let v536 : BitVec 1 := Scalar.cmpi .eq c16_i32_408 c0_i32_409
  let c1_i32_410 : BitVec 32 := 1#32
  let v537 : BitVec 32 := Scalar.select v536 c1_i32_410 c16_i32_408
  let v538 : BitVec 32 := Scalar.remsi v535 v537
  let c0_i32_412 : BitVec 32 := 0#32
  let v540 : BitVec 1 := Scalar.cmpi .slt v538 c0_i32_412
  let c0_i32_413 : BitVec 32 := 0#32
  let v541 : BitVec 1 := Scalar.cmpi .slt v537 c0_i32_413
  let v542 : BitVec 1 := Scalar.xori v540 v541
  let c0_i32_411 : BitVec 32 := 0#32
  let v539 : BitVec 1 := Scalar.cmpi .ne v538 c0_i32_411
  let v543 : BitVec 1 := Scalar.andi v542 v539
  let v544 : BitVec 32 := Scalar.addi v538 v537
  let v545 : BitVec 32 := Scalar.select v543 v544 v538
  let c1_i32_425 : BitVec 32 := 1#32
  let v556 : BitVec 32 := Scalar.muli v545 c1_i32_425
  let v557 : BitVec 32 := Scalar.addi c0_i32_426 v556
  v557.toNat
def k0_dev40 (d0 : Dev nD) : Nat :=
  let c0_i32_443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_431 : BitVec 32 := 13#32
  let v564 : BitVec 32 := Scalar.addi v2 c13_i32_431
  let c16_i32_432 : BitVec 32 := 16#32
  let c0_i32_433 : BitVec 32 := 0#32
  let v565 : BitVec 1 := Scalar.cmpi .eq c16_i32_432 c0_i32_433
  let c1_i32_434 : BitVec 32 := 1#32
  let v566 : BitVec 32 := Scalar.select v565 c1_i32_434 c16_i32_432
  let v567 : BitVec 32 := Scalar.remsi v564 v566
  let c0_i32_436 : BitVec 32 := 0#32
  let v569 : BitVec 1 := Scalar.cmpi .slt v567 c0_i32_436
  let c0_i32_437 : BitVec 32 := 0#32
  let v570 : BitVec 1 := Scalar.cmpi .slt v566 c0_i32_437
  let v571 : BitVec 1 := Scalar.xori v569 v570
  let c0_i32_435 : BitVec 32 := 0#32
  let v568 : BitVec 1 := Scalar.cmpi .ne v567 c0_i32_435
  let v572 : BitVec 1 := Scalar.andi v571 v568
  let v573 : BitVec 32 := Scalar.addi v567 v566
  let v574 : BitVec 32 := Scalar.select v572 v573 v567
  let c1_i32_442 : BitVec 32 := 1#32
  let v576 : BitVec 32 := Scalar.muli v574 c1_i32_442
  let v577 : BitVec 32 := Scalar.addi c0_i32_443 v576
  v577.toNat
def k0_dev41 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_431 : BitVec 32 := 13#32
  let v564 : BitVec 32 := Scalar.addi v2 c13_i32_431
  let c16_i32_432 : BitVec 32 := 16#32
  let c0_i32_433 : BitVec 32 := 0#32
  let v565 : BitVec 1 := Scalar.cmpi .eq c16_i32_432 c0_i32_433
  let c1_i32_434 : BitVec 32 := 1#32
  let v566 : BitVec 32 := Scalar.select v565 c1_i32_434 c16_i32_432
  let v567 : BitVec 32 := Scalar.remsi v564 v566
  let c0_i32_436 : BitVec 32 := 0#32
  let v569 : BitVec 1 := Scalar.cmpi .slt v567 c0_i32_436
  let c0_i32_437 : BitVec 32 := 0#32
  let v570 : BitVec 1 := Scalar.cmpi .slt v566 c0_i32_437
  let v571 : BitVec 1 := Scalar.xori v569 v570
  let c0_i32_435 : BitVec 32 := 0#32
  let v568 : BitVec 1 := Scalar.cmpi .ne v567 c0_i32_435
  let v572 : BitVec 1 := Scalar.andi v571 v568
  let v573 : BitVec 32 := Scalar.addi v567 v566
  let v574 : BitVec 32 := Scalar.select v572 v573 v567
  let c1_i32_449 : BitVec 32 := 1#32
  let v585 : BitVec 32 := Scalar.muli v574 c1_i32_449
  let v586 : BitVec 32 := Scalar.addi c0_i32_450 v585
  v586.toNat
def k0_dev42 (d0 : Dev nD) : Nat :=
  let c0_i32_467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_455 : BitVec 32 := 14#32
  let v593 : BitVec 32 := Scalar.addi v2 c14_i32_455
  let c16_i32_456 : BitVec 32 := 16#32
  let c0_i32_457 : BitVec 32 := 0#32
  let v594 : BitVec 1 := Scalar.cmpi .eq c16_i32_456 c0_i32_457
  let c1_i32_458 : BitVec 32 := 1#32
  let v595 : BitVec 32 := Scalar.select v594 c1_i32_458 c16_i32_456
  let v596 : BitVec 32 := Scalar.remsi v593 v595
  let c0_i32_460 : BitVec 32 := 0#32
  let v598 : BitVec 1 := Scalar.cmpi .slt v596 c0_i32_460
  let c0_i32_461 : BitVec 32 := 0#32
  let v599 : BitVec 1 := Scalar.cmpi .slt v595 c0_i32_461
  let v600 : BitVec 1 := Scalar.xori v598 v599
  let c0_i32_459 : BitVec 32 := 0#32
  let v597 : BitVec 1 := Scalar.cmpi .ne v596 c0_i32_459
  let v601 : BitVec 1 := Scalar.andi v600 v597
  let v602 : BitVec 32 := Scalar.addi v596 v595
  let v603 : BitVec 32 := Scalar.select v601 v602 v596
  let c1_i32_466 : BitVec 32 := 1#32
  let v605 : BitVec 32 := Scalar.muli v603 c1_i32_466
  let v606 : BitVec 32 := Scalar.addi c0_i32_467 v605
  v606.toNat
def k0_dev43 (d0 : Dev nD) : Nat :=
  let c0_i32_474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_455 : BitVec 32 := 14#32
  let v593 : BitVec 32 := Scalar.addi v2 c14_i32_455
  let c16_i32_456 : BitVec 32 := 16#32
  let c0_i32_457 : BitVec 32 := 0#32
  let v594 : BitVec 1 := Scalar.cmpi .eq c16_i32_456 c0_i32_457
  let c1_i32_458 : BitVec 32 := 1#32
  let v595 : BitVec 32 := Scalar.select v594 c1_i32_458 c16_i32_456
  let v596 : BitVec 32 := Scalar.remsi v593 v595
  let c0_i32_460 : BitVec 32 := 0#32
  let v598 : BitVec 1 := Scalar.cmpi .slt v596 c0_i32_460
  let c0_i32_461 : BitVec 32 := 0#32
  let v599 : BitVec 1 := Scalar.cmpi .slt v595 c0_i32_461
  let v600 : BitVec 1 := Scalar.xori v598 v599
  let c0_i32_459 : BitVec 32 := 0#32
  let v597 : BitVec 1 := Scalar.cmpi .ne v596 c0_i32_459
  let v601 : BitVec 1 := Scalar.andi v600 v597
  let v602 : BitVec 32 := Scalar.addi v596 v595
  let v603 : BitVec 32 := Scalar.select v601 v602 v596
  let c1_i32_473 : BitVec 32 := 1#32
  let v614 : BitVec 32 := Scalar.muli v603 c1_i32_473
  let v615 : BitVec 32 := Scalar.addi c0_i32_474 v614
  v615.toNat
def k0_dev44 (d0 : Dev nD) : Nat :=
  let c0_i32_491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_479 : BitVec 32 := 15#32
  let v622 : BitVec 32 := Scalar.addi v2 c15_i32_479
  let c16_i32_480 : BitVec 32 := 16#32
  let c0_i32_481 : BitVec 32 := 0#32
  let v623 : BitVec 1 := Scalar.cmpi .eq c16_i32_480 c0_i32_481
  let c1_i32_482 : BitVec 32 := 1#32
  let v624 : BitVec 32 := Scalar.select v623 c1_i32_482 c16_i32_480
  let v625 : BitVec 32 := Scalar.remsi v622 v624
  let c0_i32_484 : BitVec 32 := 0#32
  let v627 : BitVec 1 := Scalar.cmpi .slt v625 c0_i32_484
  let c0_i32_485 : BitVec 32 := 0#32
  let v628 : BitVec 1 := Scalar.cmpi .slt v624 c0_i32_485
  let v629 : BitVec 1 := Scalar.xori v627 v628
  let c0_i32_483 : BitVec 32 := 0#32
  let v626 : BitVec 1 := Scalar.cmpi .ne v625 c0_i32_483
  let v630 : BitVec 1 := Scalar.andi v629 v626
  let v631 : BitVec 32 := Scalar.addi v625 v624
  let v632 : BitVec 32 := Scalar.select v630 v631 v625
  let c1_i32_490 : BitVec 32 := 1#32
  let v634 : BitVec 32 := Scalar.muli v632 c1_i32_490
  let v635 : BitVec 32 := Scalar.addi c0_i32_491 v634
  v635.toNat
def k0_dev45 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_479 : BitVec 32 := 15#32
  let v622 : BitVec 32 := Scalar.addi v2 c15_i32_479
  let c16_i32_480 : BitVec 32 := 16#32
  let c0_i32_481 : BitVec 32 := 0#32
  let v623 : BitVec 1 := Scalar.cmpi .eq c16_i32_480 c0_i32_481
  let c1_i32_482 : BitVec 32 := 1#32
  let v624 : BitVec 32 := Scalar.select v623 c1_i32_482 c16_i32_480
  let v625 : BitVec 32 := Scalar.remsi v622 v624
  let c0_i32_484 : BitVec 32 := 0#32
  let v627 : BitVec 1 := Scalar.cmpi .slt v625 c0_i32_484
  let c0_i32_485 : BitVec 32 := 0#32
  let v628 : BitVec 1 := Scalar.cmpi .slt v624 c0_i32_485
  let v629 : BitVec 1 := Scalar.xori v627 v628
  let c0_i32_483 : BitVec 32 := 0#32
  let v626 : BitVec 1 := Scalar.cmpi .ne v625 c0_i32_483
  let v630 : BitVec 1 := Scalar.andi v629 v626
  let v631 : BitVec 32 := Scalar.addi v625 v624
  let v632 : BitVec 32 := Scalar.select v630 v631 v625
  let c1_i32_497 : BitVec 32 := 1#32
  let v643 : BitVec 32 := Scalar.muli v632 c1_i32_497
  let v644 : BitVec 32 := Scalar.addi c0_i32_498 v643
  v644.toNat
def k0_off2 (d0 : Dev nD) : Fin 2 → Nat :=
  let c0_504 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_503 : BitVec 32 := 128#32
  let v651 : BitVec 32 := Scalar.muli v2 c128_i32_503
  let v652 : Index := Scalar.indexCast v651
  ![0, v652.toNat]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v654 : BitVec 32 := Scalar.muli v2 c256_i32
  let v655 : Index := Scalar.indexCast v654
  let c0_505 : Index := 0#32
  ![v655.toNat, 0]
def k0_off4 (d0 : Dev nD) (c1_i32_521 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v669 : BitVec 32 := Scalar.subi v2 c1_i32_521
  let c16_i32_522 : BitVec 32 := 16#32
  let c0_i32_523 : BitVec 32 := 0#32
  let v670 : BitVec 1 := Scalar.cmpi .eq c16_i32_522 c0_i32_523
  let c1_i32_524 : BitVec 32 := 1#32
  let v671 : BitVec 32 := Scalar.select v670 c1_i32_524 c16_i32_522
  let v672 : BitVec 32 := Scalar.remsi v669 v671
  let c0_i32_526 : BitVec 32 := 0#32
  let v674 : BitVec 1 := Scalar.cmpi .slt v672 c0_i32_526
  let c0_i32_527 : BitVec 32 := 0#32
  let v675 : BitVec 1 := Scalar.cmpi .slt v671 c0_i32_527
  let v676 : BitVec 1 := Scalar.xori v674 v675
  let c0_i32_525 : BitVec 32 := 0#32
  let v673 : BitVec 1 := Scalar.cmpi .ne v672 c0_i32_525
  let v677 : BitVec 1 := Scalar.andi v676 v673
  let v678 : BitVec 32 := Scalar.addi v672 v671
  let v679 : BitVec 32 := Scalar.select v677 v678 v672
  let c256_i32_530 : BitVec 32 := 256#32
  let v682 : BitVec 32 := Scalar.muli v679 c256_i32_530
  let v683 : Index := Scalar.indexCast v682
  let c0_531 : Index := 0#32
  ![v683.toNat, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 10
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Fold.lean ====
/-
The kernel's body as loops over the fifteen offsets.

The printed body is straight-line code: every Python loop over the offsets 1 … 15 was unrolled when the kernel was
traced. Here the loops are written again — `sigStep`, `sendStep`, `recvStep`, `amaxStep` at a symbolic offset — and
`body_eq` says the printed body is these loops in order.
-/
module

public import proofs.«01_k».proof.Proof.Gen.KernelIdeal
public import proofs.«01_k».proof.Proof.Gen.KernelIdeal.Skeleton
public import Idealize.ShloMosaic.Lib.Tactic

@[expose] public section

noncomputable section

namespace Cert.KProof

open Cert.KernelIdeal Cert.KernelIdeal.Gen
open Idealize.ShloMosaic
open Idealize.ShloMosaic.TcCoe
open Idealize.SL.Sem

variable {F : FTy → Type} [FloatOps F]

/-- `f 0`, then `f 1`, …, then `f (n - 1)`. -/
def loop : (n : ℕ) → (Fin n → Prog (TpuEff nD τ sig (Elt F) Λ₀ .tc) PUnit) → Prog (TpuEff nD τ sig (Elt F) Λ₀ .tc) PUnit
  | 0, _ => pure ⟨⟩
  | n + 1, f => f 0 >>= fun _ => loop n fun i => f i.succ

/-! ## The buffers, and the semaphores at an offset -/

abbrev xM : Memref sig .tc .vmem S256x4096 .f32 := Memref.whole cc0_stg0_0
abbrev wM : Memref sig .tc .vmem S4096x2048 .f32 := Memref.whole cc0_stg1_0
abbrev oM : Memref sig .tc .vmem S4096x128 .f32 := Memref.whole cc0_stg2_0
abbrev yM : Memref sig .tc .vmem S256x2048 .f32 := Memref.whole cc0_scratch0
abbrev aM : Memref sig .tc .vmem S16x128 .f32 := Memref.whole cc0_scratch1
abbrev cM : Memref sig .tc .vmem S16x256x128 .f32 := Memref.whole cc0_scratch2

/-- The barrier semaphore. -/
abbrev barS : Sem sig := (SemArray.scalar (sig.barrier 0 rfl) : Sems sig S_).sem

theorem inb_sem : ∀ (o : Fin 16) (a : Fin 1), (![o.val] : Fin 1 → ℕ) a + S1.size a ≤ S16.size a := by decide
theorem inb_comm : ∀ (o : Fin 16) (a : Fin 3), (![o.val, 0, 0] : Fin 3 → ℕ) a + S1x256x128.size a ≤ S16x256x128.size a := by decide
theorem inb_amax : ∀ (o : Fin 16) (a : Fin 2), (![o.val, 0] : Fin 2 → ℕ) a + S1x128.size a ≤ S16x128.size a := by decide

/-- The four arrays of transfer semaphores: data sent, data landed, maximum sent, maximum landed. -/
def semArr : Fin 4 → DmaSems sig S16 := ![cc0_scratch3, cc0_scratch4, cc0_scratch5, cc0_scratch6]

/-- Semaphore `o` of array `k`. -/
def xS (k : Fin 4) (o : Fin 16) : DmaSem sig :=
  (((semArr k).slice (Rect.unit (s := S16) ![o.val] S1.size (inb_sem o))).squeeze S_ squeezes_S1_S_).sem

/-- The rectangle of slot `o` of the landing buffer, and that of row `o` of the maxima. -/
abbrev commR (o : Fin 16) : Rect S16x256x128 := Rect.unit (s := S16x256x128) ![o.val, 0, 0] S1x256x128.size (inb_comm o)
abbrev amaxR (o : Fin 16) : Rect S16x128 := Rect.unit (s := S16x128) ![o.val, 0] S1x128.size (inb_amax o)

/-- Slot `o` of the landing buffer, as a block. -/
abbrev commSlot (o : Fin 16) : Memref sig .tc .vmem S256x128 .f32 :=
  (cM.slice (commR o) (fun _ => rfl)).squeeze S256x128 squeezes_S1x256x128_S256x128
/-- Row `o` of the maxima. -/
abbrev amaxRow (o : Fin 16) : Memref sig .tc .vmem S1x128 .f32 := aM.slice (amaxR o) (fun _ => rfl)
/-- The columns of the product that `c` sends at offset `r + 1`. -/
abbrev sendR (c : Dev nD) (r : Fin 15) : Rect S256x2048 :=
  Rect.unit (s := S256x2048) (k0_off1 c (BitVec.ofNat 32 (1 + r.val))) S256x128.size (k0_off1_inb c r)
abbrev ySlice (c : Dev nD) (r : Fin 15) : Memref sig .tc .vmem S256x128 .f32 := yM.slice (sendR c r) (fun _ => rfl)
/-- The columns of the product that `c` keeps, the rows of the result they fill, and the rows the block received at
    offset `r + 1` fills. -/
abbrev ownR (c : Dev nD) : Rect S256x2048 := Rect.unit (s := S256x2048) (k0_off2 c) S256x128.size (k0_off2_inb c)
abbrev ownO (c : Dev nD) : Rect S4096x128 := Rect.unit (s := S4096x128) (k0_off3 c) S256x128.size (k0_off3_inb c)
abbrev recvO (c : Dev nD) (r : Fin 15) : Rect S4096x128 :=
  Rect.unit (s := S4096x128) (k0_off4 c (BitVec.ofNat 32 (1 + r.val))) S256x128.size (k0_off4_inb c r)

abbrev allX : Rect S256x4096 := Rect.unit (s := S256x4096) ![0, 0] S256x4096.size inb_S256x4096_S256x4096_0_0
abbrev allW : Rect S4096x2048 := Rect.unit (s := S4096x2048) ![0, 0] S4096x2048.size inb_S4096x2048_S4096x2048_0_0
abbrev allY : Rect S256x2048 := Rect.unit (s := S256x2048) ![0, 0] S256x2048.size inb_S256x2048_S256x2048_0_0
abbrev allO : Rect S4096x128 := Rect.unit (s := S4096x128) ![0, 0] S4096x128.size inb_S4096x128_S4096x128_0_0
abbrev allA : Rect S16x128 := Rect.unit (s := S16x128) ![0, 0] S16x128.size inb_S16x128_S16x128_0_0

/-! ## The devices the printed indices name -/

/-- Where the `r`-th signal goes, the `r`-th block of data and the `r`-th maximum, as printed. -/
def sigDev : Fin 15 → Dev nD → Dev nD := ![fun c => ⟨k0_dev1 c, k0_dev1_lt c⟩, fun c => ⟨k0_dev2 c, k0_dev2_lt c⟩, fun c => ⟨k0_dev3 c, k0_dev3_lt c⟩, fun c => ⟨k0_dev4 c, k0_dev4_lt c⟩, fun c => ⟨k0_dev5 c, k0_dev5_lt c⟩, fun c => ⟨k0_dev6 c, k0_dev6_lt c⟩, fun c => ⟨k0_dev7 c, k0_dev7_lt c⟩, fun c => ⟨k0_dev8 c, k0_dev8_lt c⟩, fun c => ⟨k0_dev9 c, k0_dev9_lt c⟩, fun c => ⟨k0_dev10 c, k0_dev10_lt c⟩, fun c => ⟨k0_dev11 c, k0_dev11_lt c⟩, fun c => ⟨k0_dev12 c, k0_dev12_lt c⟩, fun c => ⟨k0_dev13 c, k0_dev13_lt c⟩, fun c => ⟨k0_dev14 c, k0_dev14_lt c⟩, fun c => ⟨k0_dev15 c, k0_dev15_lt c⟩]
def datDev : Fin 15 → Dev nD → Dev nD := ![fun c => ⟨k0_dev16 c, k0_dev16_lt c⟩, fun c => ⟨k0_dev18 c, k0_dev18_lt c⟩, fun c => ⟨k0_dev20 c, k0_dev20_lt c⟩, fun c => ⟨k0_dev22 c, k0_dev22_lt c⟩, fun c => ⟨k0_dev24 c, k0_dev24_lt c⟩, fun c => ⟨k0_dev26 c, k0_dev26_lt c⟩, fun c => ⟨k0_dev28 c, k0_dev28_lt c⟩, fun c => ⟨k0_dev30 c, k0_dev30_lt c⟩, fun c => ⟨k0_dev32 c, k0_dev32_lt c⟩, fun c => ⟨k0_dev34 c, k0_dev34_lt c⟩, fun c => ⟨k0_dev36 c, k0_dev36_lt c⟩, fun c => ⟨k0_dev38 c, k0_dev38_lt c⟩, fun c => ⟨k0_dev40 c, k0_dev40_lt c⟩, fun c => ⟨k0_dev42 c, k0_dev42_lt c⟩, fun c => ⟨k0_dev44 c, k0_dev44_lt c⟩]
def amxDev : Fin 15 → Dev nD → Dev nD := ![fun c => ⟨k0_dev17 c, k0_dev17_lt c⟩, fun c => ⟨k0_dev19 c, k0_dev19_lt c⟩, fun c => ⟨k0_dev21 c, k0_dev21_lt c⟩, fun c => ⟨k0_dev23 c, k0_dev23_lt c⟩, fun c => ⟨k0_dev25 c, k0_dev25_lt c⟩, fun c => ⟨k0_dev27 c, k0_dev27_lt c⟩, fun c => ⟨k0_dev29 c, k0_dev29_lt c⟩, fun c => ⟨k0_dev31 c, k0_dev31_lt c⟩, fun c => ⟨k0_dev33 c, k0_dev33_lt c⟩, fun c => ⟨k0_dev35 c, k0_dev35_lt c⟩, fun c => ⟨k0_dev37 c, k0_dev37_lt c⟩, fun c => ⟨k0_dev39 c, k0_dev39_lt c⟩, fun c => ⟨k0_dev41 c, k0_dev41_lt c⟩, fun c => ⟨k0_dev43 c, k0_dev43_lt c⟩, fun c => ⟨k0_dev45 c, k0_dev45_lt c⟩]

/-! ## The steps -/

/-- Tell the device `r + 1` further on that this one has entered. -/
def sigStep (c : Dev nD) (r : Fin 15) : Prog (TpuEff nD τ sig (Elt F) Λ₀ .tc) PUnit := semSignalWord (sigDev r c) barS 1#32

/-- The block of columns for the device `r + 1` further on, then this device's maximum. -/
def sendStep (c : Dev nD) (r : Fin 15) : Prog (TpuEff nD τ sig (Elt F) Λ₀ .tc) PUnit := do
  Prog.lift (.enqueueDma (ySlice c r) (.remote (Dev.tc (datDev r c)) (commSlot r.succ) (.dma (xS 0 r.succ))) (.dma (xS 1 r.succ)) (View.wordExact_bits rfl) ((View.wordExact_bits rfl).reshape _ _) ⟨⟨rfl, Or.inl rfl⟩, trivial⟩)
  Prog.lift (.enqueueDma (amaxRow 0) (.remote (Dev.tc (amxDev r c)) (amaxRow r.succ) (.dma (xS 2 r.succ))) (.dma (xS 3 r.succ)) (View.wordExact_bits rfl) (View.wordExact_bits rfl) ⟨⟨rfl, Or.inl rfl⟩, trivial⟩)

/-- Wait for the `r`-th block to be away and for the one from the device `r + 1` back; put that one in the result. -/
def recvStep (c : Dev nD) (r : Fin 15) : Prog (TpuEff nD τ sig (Elt F) Λ₀ .tc) PUnit := do
  Prog.lift (.waitDma2 (xS 0 r.succ) (commSlot r.succ) (ySlice c r) ((View.wordExact_bits rfl).reshape _ _) (View.wordExact_bits rfl))
  Prog.lift (.waitDma2 (xS 1 r.succ) (ySlice c r) (commSlot r.succ) (View.wordExact_bits rfl) ((View.wordExact_bits rfl).reshape _ _))
  let v : Vec F S1x256x128 .f32 ← Prog.lift (.load cM (commR r.succ).toLoadRect (View.loadsAt_vmem h_S1x256x128))
  let _u : Vec F S256x128 .f32 ← Prog.lift (.load oM (recvO c r).toLoadRect (View.loadsAt_vmem h_S256x128))
  Prog.lift (.store oM (recvO c r) (k0_pay4 v) Finset.univ (View.stores_vmem_bits_univ h_S256x128 rfl) (.inl rfl))

/-- Wait for the `r`-th maximum to be away and for the one from the device `r + 1` back. -/
def amaxStep (r : Fin 15) : Prog (TpuEff nD τ sig (Elt F) Λ₀ .tc) PUnit := do
  Prog.lift (.waitDma2 (xS 2 r.succ) (amaxRow r.succ) (amaxRow 0) (View.wordExact_bits rfl) (View.wordExact_bits rfl))
  Prog.lift (.waitDma2 (xS 3 r.succ) (amaxRow 0) (amaxRow r.succ) (View.wordExact_bits rfl) (View.wordExact_bits rfl))

/-- The product of this device's rows, and its maximum. -/
def matStep : Prog (TpuEff nD τ sig (Elt F) Λ₀ .tc) PUnit := do
  let x : Vec F S256x4096 .f32 ← Prog.lift (.load xM allX.toLoadRect (View.loadsAt_vmem h_S256x4096))
  let w : Vec F S4096x2048 .f32 ← Prog.lift (.load wM allW.toLoadRect (View.loadsAt_vmem h_S4096x2048))
  let _u : Vec F S256x2048 .f32 ← Prog.lift (.load yM allY.toLoadRect (View.loadsAt_vmem h_S256x2048))
  Prog.lift (.store yM allY (k0_pay2 x w) Finset.univ (View.stores_vmem_bits_univ h_S256x2048 rfl) (.inl rfl))
  let _v : Vec F S1x128 .f32 ← Prog.lift (.load aM (amaxR 0).toLoadRect (View.loadsAt_vmem h_S1x128))
  Prog.lift (.store aM (amaxR 0) (k0_pay3 x w) Finset.univ (View.stores_vmem_bits_univ h_S1x128 rfl) (.inl rfl))

/-- The block this device keeps. -/
def keepStep (c : Dev nD) : Prog (TpuEff nD τ sig (Elt F) Λ₀ .tc) PUnit := do
  let y : Vec F S256x128 .f32 ← Prog.lift (.load yM (ownR c).toLoadRect (View.loadsAt_vmem h_S256x128))
  let _u : Vec F S256x128 .f32 ← Prog.lift (.load oM (ownO c).toLoadRect (View.loadsAt_vmem h_S256x128))
  Prog.lift (.store oM (ownO c) y Finset.univ (View.stores_vmem_bits_univ h_S256x128 rfl) (.inl rfl))

/-- The largest of all maxima, and every element rounded on its scale. -/
def quantStep : Prog (TpuEff nD τ sig (Elt F) Λ₀ .tc) PUnit := do
  let a : Vec F S16x128 .f32 ← Prog.lift (.load aM allA.toLoadRect (View.loadsAt_vmem h_S16x128))
  let y : Vec F S4096x128 .f32 ← Prog.lift (.load oM allO.toLoadRect (View.loadsAt_vmem h_S4096x128))
  let _u : Vec F S4096x128 .f32 ← Prog.lift (.load oM allO.toLoadRect (View.loadsAt_vmem h_S4096x128))
  Prog.lift (.store oM allO (k0_pay20 (k0_pay19 a) y) Finset.univ (View.stores_vmem_bits_univ h_S4096x128 rfl) (.inl rfl))

/-- The whole body on device `c`. -/
def looped (c : Dev nD) : Prog (TpuEff nD τ sig (Elt F) Λ₀ .tc) PUnit := do
  loop 15 (sigStep c)
  semWaitWord barS 15#32
  matStep
  loop 15 (sendStep c)
  keepStep c
  loop 15 (recvStep c)
  loop 15 amaxStep
  quantStep

/-- The printed body on the kernel's buffers. -/
abbrev printedBody : Prog (TpuEff nD τ sig (Elt F) Λ₀ .tc) PUnit :=
  cc0_body xM (Memref.isWhole_whole _) wM (Memref.isWhole_whole _) oM (Memref.isWhole_whole _) yM (Memref.isWhole_whole _)
    aM (Memref.isWhole_whole _) cM (Memref.isWhole_whole _) cc0_scratch3 cc0_scratch4 cc0_scratch5 cc0_scratch6

set_option maxRecDepth 65536 in
set_option maxHeartbeats 4000000 in
theorem body_eq : printedBody (F := F) = (Prog.lift .deviceId >>= fun c => looped c) := by
  rfl

end Cert.KProof

end
-- ==== Proof.Geom.lean ====
/-
Where everything lies: the devices the printed indices name, the pieces the buffers are cut into — columns of the
product, slots of the landing buffer, rows of the maxima, row blocks of the result — and what each piece holds once
the exchange is over.
-/
module

public import proofs.«01_k».proof.Proof.Fold
public import Idealize.ShloMosaic.Lib.ValueLayout

@[expose] public section

noncomputable section

namespace Cert.KProof

open Cert.KernelIdeal Cert.KernelIdeal.Gen
open Idealize.ShloMosaic
open Idealize.ShloMosaic.TcCoe
open Idealize.ShloMosaic.ValueIdx
open Idealize.SL.Sem

variable {F : FTy → Type} [FloatOps F]

/-! ## The devices -/

/-- The device `o` further on, and the one `o` back. -/
def fwd (c : Dev nD) (o : Fin 16) : Dev nD := ⟨(c.val + o.val) % 16, Nat.mod_lt _ (by decide)⟩
def bwd (c : Dev nD) (o : Fin 16) : Dev nD := ⟨(c.val + (16 - o.val)) % 16, Nat.mod_lt _ (by decide)⟩

theorem dev_lt (c : Dev nD) : c.val < 16 := c.isLt

theorem bwd_fwd (c : Dev nD) (o : Fin 16) : bwd (fwd c o) o = c := by
  have := dev_lt c; have := o.isLt
  refine Fin.ext ?_
  show ((c.val + o.val) % 16 + (16 - o.val)) % 16 = c.val
  omega
theorem fwd_bwd (c : Dev nD) (o : Fin 16) : fwd (bwd c o) o = c := by
  have := dev_lt c; have := o.isLt
  refine Fin.ext ?_
  show ((c.val + (16 - o.val)) % 16 + o.val) % 16 = c.val
  omega
theorem fwd_zero (c : Dev nD) : fwd c 0 = c := by
  have := dev_lt c
  exact Fin.ext (by show (c.val + 0) % 16 = c.val; omega)
theorem bwd_zero (c : Dev nD) : bwd c 0 = c := by
  have := dev_lt c
  exact Fin.ext (by show (c.val + 16) % 16 = c.val; omega)
/-- Going on by an offset and then by the opposite one leads back. -/
theorem fwd_rev (c : Dev nD) (r : Fin 15) : fwd (fwd c r.succ) r.rev.succ = c := by
  have := dev_lt c; have := r.isLt
  refine Fin.ext ?_
  show ((c.val + (r.val + 1)) % 16 + ((15 - (r.val + 1)) + 1)) % 16 = c.val
  omega
/-- Turning by `o` is a bijection of the devices. -/
def turn (o : Fin 16) : Dev nD ≃ Dev nD := ⟨fun c => fwd c o, fun c => bwd c o, fun c => bwd_fwd c o, fun c => fwd_bwd c o⟩
/-- So is going every offset from one device, and coming back every offset. -/
theorem fwd_inj (c : Dev nD) : Function.Injective (fwd c) := fun o o' h => by
  have h' : (c.val + o.val) % 16 = (c.val + o'.val) % 16 := congrArg Fin.val h
  have := o.isLt; have := o'.isLt
  exact Fin.ext (by omega)
theorem bwd_inj (c : Dev nD) : Function.Injective (bwd c) := fun o o' h => by
  have h' : (c.val + (16 - o.val)) % 16 = (c.val + (16 - o'.val)) % 16 := congrArg Fin.val h
  have := o.isLt; have := o'.isLt
  exact Fin.ext (by omega)
def around (c : Dev nD) : Fin 16 ≃ Dev nD := Equiv.ofBijective (fwd c) ((Fintype.bijective_iff_injective_and_card _).2 ⟨fwd_inj c, rfl⟩)
def aback (c : Dev nD) : Fin 16 ≃ Dev nD := Equiv.ofBijective (bwd c) ((Fintype.bijective_iff_injective_and_card _).2 ⟨bwd_inj c, rfl⟩)

/-! ### What is printed -/

set_option maxRecDepth 100000 in
theorem sigDev_eq : ∀ (r : Fin 15) (c : Dev nD), sigDev r c = fwd c r.succ := by decide +kernel
set_option maxRecDepth 100000 in
theorem datDev_eq : ∀ (r : Fin 15) (c : Dev nD), datDev r c = fwd c r.succ := by decide +kernel
set_option maxRecDepth 100000 in
theorem amxDev_eq : ∀ (r : Fin 15) (c : Dev nD), amxDev r c = fwd c r.succ := by decide +kernel

set_option maxRecDepth 100000 in
theorem off1_eq : ∀ (c : Dev nD) (r : Fin 15) (a : Fin 2),
    k0_off1 c (BitVec.ofNat 32 (1 + r.val)) a = (![0, 128 * (fwd c r.succ).val] : Fin 2 → ℕ) a := by decide +kernel
set_option maxRecDepth 100000 in
theorem off4_eq : ∀ (c : Dev nD) (r : Fin 15) (a : Fin 2),
    k0_off4 c (BitVec.ofNat 32 (1 + r.val)) a = (![256 * (bwd c r.succ).val, 0] : Fin 2 → ℕ) a := by decide +kernel

set_option maxRecDepth 100000 in
theorem xS_val : ∀ (k : Fin 4) (o : Fin 16), (xS k o).val = 3 + 16 * k.val + o.val := by decide +kernel

/-! ## The pieces -/

/-- The columns of the product that belong to device `p`. -/
def ySet (p : Dev nD) : Finset S256x2048.Idx := Finset.univ.filter fun i => (i 1).val / 128 = p.val
/-- Slot `o` of the landing buffer. -/
def cSet (o : Fin 16) : Finset S16x256x128.Idx := Finset.univ.filter fun i => (i 0).val = o.val
/-- Row `o` of the maxima. -/
def aSet (o : Fin 16) : Finset S16x128.Idx := Finset.univ.filter fun i => (i 0).val = o.val
/-- The rows of the result that come from device `p`. -/
def oSet (p : Dev nD) : Finset S4096x128.Idx := Finset.univ.filter fun i => (i 0).val / 256 = p.val

/-- A family of the elements by a key: pairwise disjoint, and every element has its key. -/
theorem key_disjoint {I K : Type} [Fintype I] [DecidableEq I] [DecidableEq K] (key : I → K) (a b : K) (h : a ≠ b) :
    Disjoint (Finset.univ.filter fun i => key i = a) (Finset.univ.filter fun i => key i = b) :=
  Finset.disjoint_filter.2 fun i _ ha hb => h (ha.symm.trans hb)

theorem ySet_disjoint (p q : Dev nD) (h : p ≠ q) : Disjoint (ySet p) (ySet q) :=
  key_disjoint (fun i : S256x2048.Idx => (i 1).val / 128) p.val q.val fun h' => h (Fin.ext h')
theorem cSet_disjoint (p q : Fin 16) (h : p ≠ q) : Disjoint (cSet p) (cSet q) :=
  key_disjoint (fun i : S16x256x128.Idx => (i 0).val) p.val q.val fun h' => h (Fin.ext h')
theorem aSet_disjoint (p q : Fin 16) (h : p ≠ q) : Disjoint (aSet p) (aSet q) :=
  key_disjoint (fun i : S16x128.Idx => (i 0).val) p.val q.val fun h' => h (Fin.ext h')
theorem oSet_disjoint (p q : Dev nD) (h : p ≠ q) : Disjoint (oSet p) (oSet q) :=
  key_disjoint (fun i : S4096x128.Idx => (i 0).val / 256) p.val q.val fun h' => h (Fin.ext h')

theorem ySet_cover : Finset.univ.biUnion ySet = Finset.univ := by
  refine Finset.eq_univ_iff_forall.2 fun i => Finset.mem_biUnion.2
    ⟨⟨(i 1).val / 128, by have : (i 1).val < 2048 := (i 1).isLt; show _ < 16; omega⟩, Finset.mem_univ _, Finset.mem_filter.2 ⟨Finset.mem_univ _, rfl⟩⟩
theorem cSet_cover : Finset.univ.biUnion cSet = Finset.univ :=
  Finset.eq_univ_iff_forall.2 fun i => Finset.mem_biUnion.2 ⟨i 0, Finset.mem_univ _, Finset.mem_filter.2 ⟨Finset.mem_univ _, rfl⟩⟩
theorem aSet_cover : Finset.univ.biUnion aSet = Finset.univ :=
  Finset.eq_univ_iff_forall.2 fun i => Finset.mem_biUnion.2 ⟨i 0, Finset.mem_univ _, Finset.mem_filter.2 ⟨Finset.mem_univ _, rfl⟩⟩
theorem oSet_cover : Finset.univ.biUnion oSet = Finset.univ := by
  refine Finset.eq_univ_iff_forall.2 fun i => Finset.mem_biUnion.2
    ⟨⟨(i 0).val / 256, by have : (i 0).val < 4096 := (i 0).isLt; show _ < 16; omega⟩, Finset.mem_univ _, Finset.mem_filter.2 ⟨Finset.mem_univ _, rfl⟩⟩

/-! ### The rectangles the program names are these pieces -/

theorem rect_ySet {off : Fin 2 → ℕ} {inb} (p : Dev nD) (h : ∀ a, off a = (![0, 128 * p.val] : Fin 2 → ℕ) a) :
    (Rect.unit (s := S256x2048) off S256x128.size inb).set = ySet p := by
  ext i
  have e0 : off 0 = 0 := h 0
  have e1 : off 1 = 128 * p.val := h 1
  have i0 : (i 0).val < 256 := (i 0).isLt
  simp only [Rect.mem_set_unit, ySet, Finset.mem_filter, Finset.mem_univ, true_and]
  refine (Fin.forall_fin_two).trans ?_
  rw [e0, e1]
  show ((0 ≤ (i 0).val ∧ (i 0).val < 0 + 256) ∧ 128 * p.val ≤ (i 1).val ∧ (i 1).val < 128 * p.val + 128) ↔ _
  omega

theorem rect_oSet {off : Fin 2 → ℕ} {inb} (p : Dev nD) (h : ∀ a, off a = (![256 * p.val, 0] : Fin 2 → ℕ) a) :
    (Rect.unit (s := S4096x128) off S256x128.size inb).set = oSet p := by
  ext i
  have e0 : off 0 = 256 * p.val := h 0
  have e1 : off 1 = 0 := h 1
  have i1 : (i 1).val < 128 := (i 1).isLt
  simp only [Rect.mem_set_unit, oSet, Finset.mem_filter, Finset.mem_univ, true_and]
  refine (Fin.forall_fin_two).trans ?_
  rw [e0, e1]
  show ((256 * p.val ≤ (i 0).val ∧ (i 0).val < 256 * p.val + 256) ∧ 0 ≤ (i 1).val ∧ (i 1).val < 0 + 128) ↔ _
  omega

theorem rect_cSet (o : Fin 16) : (commR o).set = cSet o := by
  ext i
  have i1 : (i 1).val < 256 := (i 1).isLt
  have i2 : (i 2).val < 128 := (i 2).isLt
  simp only [Rect.mem_set_unit, cSet, Finset.mem_filter, Finset.mem_univ, true_and]
  constructor
  · intro h
    have h0 : o.val ≤ (i 0).val ∧ (i 0).val < o.val + 1 := h 0
    omega
  · intro h a
    match a with
    | 0 => show o.val ≤ (i 0).val ∧ (i 0).val < o.val + 1; omega
    | 1 => show 0 ≤ (i 1).val ∧ (i 1).val < 0 + 256; omega
    | 2 => show 0 ≤ (i 2).val ∧ (i 2).val < 0 + 128; omega

theorem rect_aSet (o : Fin 16) : (amaxR o).set = aSet o := by
  ext i
  have i1 : (i 1).val < 128 := (i 1).isLt
  simp only [Rect.mem_set_unit, aSet, Finset.mem_filter, Finset.mem_univ, true_and]
  constructor
  · intro h
    have h0 : o.val ≤ (i 0).val ∧ (i 0).val < o.val + 1 := h 0
    omega
  · intro h a
    match a with
    | 0 => show o.val ≤ (i 0).val ∧ (i 0).val < o.val + 1; omega
    | 1 => show 0 ≤ (i 1).val ∧ (i 1).val < 0 + 128; omega

theorem ySlice_set (c : Dev nD) (r : Fin 15) : (ySlice c r).view.set = ySet (fwd c r.succ) :=
  (View.set_slice_whole _ _).trans (rect_ySet _ (off1_eq c r))
theorem ownR_set (c : Dev nD) : (ownR c).set = ySet c := rect_ySet c fun a => by rw [k0_off2_eq]
theorem ownO_set (c : Dev nD) : (ownO c).set = oSet c := rect_oSet c fun a => by rw [k0_off3_eq]
theorem recvO_set (c : Dev nD) (r : Fin 15) : (recvO c r).set = oSet (bwd c r.succ) := rect_oSet _ (off4_eq c r)
theorem amaxRow_set (o : Fin 16) : (amaxRow o).view.set = aSet o := (View.set_slice_whole _ _).trans (rect_aSet o)
theorem commSlot_set (o : Fin 16) : (commSlot o).view.set = cSet o :=
  (View.set_reshape _ _).trans ((View.set_slice_whole _ _).trans (rect_cSet o))

/-! ## The contents -/

section Contents
variable (X : Dev nD → Vec F S256x4096 .f32) (W : Dev nD → Vec F S4096x2048 .f32)

/-- The product of device `c`'s rows. -/
def yT (c : Dev nD) : Vec F S256x2048 .f32 := k0_pay2 (X c) (W c)
/-- What lands in device `c`'s slots: in slot `o`, its columns of the product of the device `o` back. -/
def cT (c : Dev nD) : Vec F S16x256x128 .f32 := fun i =>
  yT X W (bwd c (i 0)) (ix2 (i 1) ⟨128 * c.val + (i 2).val, by
    have : (i 2).val < 128 := (i 2).isLt
    have := dev_lt c; omega⟩)
/-- The maxima as device `c` sees them: in row `o`, the maximum of the device `o` back. -/
def aT (c : Dev nD) : Vec F S16x128 .f32 := fun i => k0_pay3 (X (bwd c (i 0))) (W (bwd c (i 0))) (ix2 (0 : Fin 1) (i 1))
/-- Device `c`'s columns of the whole product. -/
def oT (c : Dev nD) : Vec F S4096x128 .f32 := fun i =>
  yT X W ⟨(i 0).val / 256, by have : (i 0).val < 4096 := (i 0).isLt; show _ < 16; omega⟩
    (ix2 ⟨(i 0).val % 256, Nat.mod_lt _ (by decide)⟩ ⟨128 * c.val + (i 1).val, by
      have : (i 1).val < 128 := (i 1).isLt
      have := dev_lt c; omega⟩)
/-- Device `c`'s columns of the result. -/
def resT (c : Dev nD) : Vec F S4096x128 .f32 := k0_pay20 (k0_pay19 (aT X W c)) (oT X W c)

end Contents

end Cert.KProof

end
-- ==== Proof.Land.lean ====
/-
What the transfers, loads and stores leave on each piece, element by element.
-/
module

public import proofs.«01_k».proof.Proof.Geom

@[expose] public section

noncomputable section

namespace Cert.KProof

open Cert.KernelIdeal Cert.KernelIdeal.Gen
open Idealize.ShloMosaic
open Idealize.ShloMosaic.TcCoe
open Idealize.ShloMosaic.ValueIdx
open Idealize.SL.Sem

variable {F : FTy → Type} [FloatOps F]
variable (X : Dev nD → Vec F S256x4096 .f32) (W : Dev nD → Vec F S4096x2048 .f32)

/-! ## Where an index of a piece lies -/

theorem commSlot_emb (o : Fin 16) (i : S16x256x128.Idx) (h : (i 0).val = o.val) :
    (commSlot o).view.emb (ix2 (i 1) (i 2) : S256x128.Idx) = i := by
  show (commR o).emb (Shape.reshapeEquiv _ (ix2 (i 1) (i 2))) = i
  refine (congrArg (commR o).emb (reshapeEquiv_ix2_1ab (a := 256) (b := 128) _ (i 1) (i 2))).trans ?_
  funext a
  refine Fin.ext ?_
  match a with
  | 0 => show o.val + 1 * 0 = (i 0).val; omega
  | 1 => show 0 + 1 * (i 1).val = (i 1).val; omega
  | 2 => show 0 + 1 * (i 2).val = (i 2).val; omega

theorem amaxR_emb (o : Fin 16) (i : S16x128.Idx) (h : (i 0).val = o.val) : (amaxR o).emb (ix2 (0 : Fin 1) (i 1) : S1x128.Idx) = i := by
  funext a
  refine Fin.ext ?_
  match a with
  | 0 => show o.val + 1 * 0 = (i 0).val; omega
  | 1 => show 0 + 1 * (i 1).val = (i 1).val; omega

theorem cols_emb {off : Fin 2 → ℕ} {inb} (p : Dev nD) (h : ∀ a, off a = (![0, 128 * p.val] : Fin 2 → ℕ) a) (i : Fin 256) (j : Fin 128) :
    (Rect.unit (s := S256x2048) off S256x128.size inb).emb (ix2 i j : S256x128.Idx)
      = (ix2 i ⟨128 * p.val + j.val, by have := dev_lt p; omega⟩ : S256x2048.Idx) := by
  have e0 : off 0 = 0 := h 0
  have e1 : off 1 = 128 * p.val := h 1
  funext a
  refine Fin.ext ?_
  match a with
  | 0 => show off 0 + 1 * i.val = i.val; omega
  | 1 => show off 1 + 1 * j.val = 128 * p.val + j.val; omega

theorem rows_emb {off : Fin 2 → ℕ} {inb} (p : Dev nD) (h : ∀ a, off a = (![256 * p.val, 0] : Fin 2 → ℕ) a) (i : S4096x128.Idx)
    (hi : (i 0).val / 256 = p.val) :
    (Rect.unit (s := S4096x128) off S256x128.size inb).emb (ix2 ⟨(i 0).val % 256, Nat.mod_lt _ (by decide)⟩ (i 1) : S256x128.Idx) = i := by
  have e0 : off 0 = 256 * p.val := h 0
  have e1 : off 1 = 0 := h 1
  funext a
  refine Fin.ext ?_
  match a with
  | 0 => show off 0 + 1 * ((i 0).val % 256) = (i 0).val; omega
  | 1 => show off 1 + 1 * (i 1).val = (i 1).val; omega

/-! ## The transfers -/

/-- The block that `c` sends at offset `r + 1` lands as that slot of the receiver's. -/
theorem landed_data (c : Dev nD) (r : Fin 15) (fd : (cc0_scratch2 : Ref sig .tc).ty.Contents (Elt F)) :
    ∀ i ∈ cSet r.succ, (commSlot r.succ).view.write (Elt F) fd ((ySlice c r).view.read (Elt F) (yT X W c)) Finset.univ i
      = cT X W (fwd c r.succ) i := fun i hi => by
  have hi' : (i 0).val = r.succ.val := (Finset.mem_filter.1 hi).2
  have h0 : (i 0 : Fin 16) = r.succ := Fin.ext hi'
  refine (congrArg _ (commSlot_emb r.succ i hi').symm).trans ?_
  rw [View.write_emb_of_mem _ _ (Finset.mem_univ _)]
  refine (congrArg (yT X W c) (cols_emb (inb := k0_off1_inb c r) (fwd c r.succ) (off1_eq c r) (i 1) (i 2))).trans ?_
  unfold cT
  rw [h0, bwd_fwd]

/-- The maximum that `c` sends at offset `o` lands as that row of the receiver's. -/
theorem landed_amax (c : Dev nD) (o : Fin 16) (fd : (cc0_scratch1 : Ref sig .tc).ty.Contents (Elt F)) :
    ∀ i ∈ aSet o, (amaxRow o).view.write (Elt F) fd ((amaxRow 0).view.read (Elt F) (aT X W c)) Finset.univ i
      = aT X W (fwd c o) i := fun i hi => by
  have hi' : (i 0).val = o.val := (Finset.mem_filter.1 hi).2
  have h0 : (i 0 : Fin 16) = o := Fin.ext hi'
  refine (congrArg _ (amaxR_emb o i hi').symm).trans ?_
  refine (View.write_emb_of_mem (v := (amaxRow o).view) _ _ (Finset.mem_univ _)).trans ?_
  have e : (amaxR 0).emb (ix2 (0 : Fin 1) (i 1) : S1x128.Idx) = (ix2 (0 : Fin 16) (i 1) : S16x128.Idx) :=
    amaxR_emb 0 (ix2 (0 : Fin 16) (i 1)) rfl
  refine (cast_eq _ _).trans ?_
  refine (View.read_apply (v := (amaxRow 0).view) _ _).trans ?_
  refine (cast_eq _ _).trans ?_
  refine (congrArg (aT X W c) e).trans ?_
  unfold aT
  rw [h0, bwd_fwd]
  exact congrArg (fun d => k0_pay3 (X d) (W d) (ix2 (0 : Fin 1) (i 1))) (bwd_zero c)

/-! ## The loads and stores -/

theorem hz2 : (![0, 0] : Fin 2 → Nat) = fun _ => 0 := funext fun a => by fin_cases a <;> rfl

theorem read_allX (f : (cc0_stg0_0 : Ref sig .tc).ty.Contents (Elt F)) : xM.view.readAt (Elt F) allX.toLoadRect f = f :=
  Memref.readAt_unit_zero (Elt F) cc0_stg0_0 hz2 _ f
theorem read_allW (f : (cc0_stg1_0 : Ref sig .tc).ty.Contents (Elt F)) : wM.view.readAt (Elt F) allW.toLoadRect f = f :=
  Memref.readAt_unit_zero (Elt F) cc0_stg1_0 hz2 _ f
theorem read_allO (f : (cc0_stg2_0 : Ref sig .tc).ty.Contents (Elt F)) : oM.view.readAt (Elt F) allO.toLoadRect f = f :=
  Memref.readAt_unit_zero (Elt F) cc0_stg2_0 hz2 _ f
theorem read_allA (f : (cc0_scratch1 : Ref sig .tc).ty.Contents (Elt F)) : aM.view.readAt (Elt F) allA.toLoadRect f = f :=
  Memref.readAt_unit_zero (Elt F) cc0_scratch1 hz2 _ f
theorem write_allY (f w : (cc0_scratch0 : Ref sig .tc).ty.Contents (Elt F)) : (yM.access allY : View sig .tc _ _ _).write (Elt F) f w Finset.univ = w :=
  Memref.write_access_unit_zero_univ (Elt F) cc0_scratch0 hz2 _ f w
theorem write_allO (f w : (cc0_stg2_0 : Ref sig .tc).ty.Contents (Elt F)) : (oM.access allO : View sig .tc _ _ _).write (Elt F) f w Finset.univ = w :=
  Memref.write_access_unit_zero_univ (Elt F) cc0_stg2_0 hz2 _ f w

/-- The local maximum stored in row 0. -/
theorem stored_amax (c : Dev nD) (f : (cc0_scratch1 : Ref sig .tc).ty.Contents (Elt F)) :
    ∀ i ∈ aSet 0, (aM.access (amaxR 0) : View sig .tc _ _ _).write (Elt F) f (k0_pay3 (X c) (W c)) Finset.univ i = aT X W c i := fun i hi => by
  have hi' : (i 0).val = (0 : Fin 16).val := (Finset.mem_filter.1 hi).2
  have h0 : i 0 = (0 : Fin 16) := Fin.ext hi'
  refine (congrArg _ (amaxR_emb 0 i hi').symm).trans ?_
  refine (View.write_emb_of_mem (v := (aM.access (amaxR 0) : View sig .tc _ _ _)) _ _ (Finset.mem_univ _)).trans ?_
  unfold aT
  rw [h0, bwd_zero]
  exact cast_eq _ _

/-- The block this device keeps, stored in its rows. -/
theorem stored_own (c : Dev nD) (f : (cc0_stg2_0 : Ref sig .tc).ty.Contents (Elt F)) :
    ∀ i ∈ oSet c, (oM.access (ownO c) : View sig .tc _ _ _).write (Elt F) f (yM.view.readAt (Elt F) (ownR c).toLoadRect (yT X W c)) Finset.univ i
      = oT X W c i := fun i hi => by
  have hi' : (i 0).val / 256 = c.val := (Finset.mem_filter.1 hi).2
  refine (congrArg _ (rows_emb (inb := k0_off3_inb c) c (fun a => by rw [k0_off3_eq]) i hi').symm).trans ?_
  refine (View.write_emb_of_mem (v := (oM.access (ownO c) : View sig .tc _ _ _)) _ _ (Finset.mem_univ _)).trans ?_
  refine (congrArg (yT X W c) (cols_emb (inb := k0_off2_inb c) c (fun a => by rw [k0_off2_eq]) ⟨(i 0).val % 256, Nat.mod_lt _ (by decide)⟩ (i 1))).trans ?_
  unfold oT
  rw [show (⟨(i 0).val / 256, _⟩ : Dev nD) = c from Fin.ext hi']

/-- The block received at offset `r + 1`, stored in its rows. -/
theorem stored_recv (c : Dev nD) (r : Fin 15) (f : (cc0_stg2_0 : Ref sig .tc).ty.Contents (Elt F)) :
    ∀ i ∈ oSet (bwd c r.succ), (oM.access (recvO c r) : View sig .tc _ _ _).write (Elt F) f
        (k0_pay4 (cM.view.readAt (Elt F) (commR r.succ).toLoadRect (cT X W c))) Finset.univ i
      = oT X W c i := fun i hi => by
  have hi' : (i 0).val / 256 = (bwd c r.succ).val := (Finset.mem_filter.1 hi).2
  refine (congrArg _ (rows_emb (inb := k0_off4_inb c r) (bwd c r.succ) (off4_eq c r) i hi').symm).trans ?_
  refine (View.write_emb_of_mem (v := (oM.access (recvO c r) : View sig .tc _ _ _)) _ _ (Finset.mem_univ _)).trans ?_
  refine (shapeCast_1ab_ab_apply (a := 256) (b := 128) (cM.view.readAt (Elt F) (commR r.succ).toLoadRect (cT X W c)) _ _ (i 1)).trans ?_
  show cT X W c ((commR r.succ).emb (ix3 (0 : Fin 1) (⟨(i 0).val % 256, Nat.mod_lt _ (by decide)⟩ : Fin 256) (i 1))) = _
  have e : (commR r.succ).emb (ix3 (0 : Fin 1) (⟨(i 0).val % 256, Nat.mod_lt _ (by decide)⟩ : Fin 256) (i 1) : S1x256x128.Idx)
      = (ix3 r.succ (⟨(i 0).val % 256, Nat.mod_lt _ (by decide)⟩ : Fin 256) (i 1) : S16x256x128.Idx) := by
    funext a
    refine Fin.ext ?_
    match a with
    | 0 => show r.succ.val + 1 * 0 = r.succ.val; omega
    | 1 => show 0 + 1 * ((i 0).val % 256) = (i 0).val % 256; omega
    | 2 => show 0 + 1 * (i 1).val = (i 1).val; omega
  rw [e]
  show yT X W (bwd c r.succ) (ix2 (⟨(i 0).val % 256, Nat.mod_lt _ (by decide)⟩ : Fin 256) _) = _
  unfold oT
  rw [show (⟨(i 0).val / 256, _⟩ : Dev nD) = bwd c r.succ from Fin.ext hi']

end Cert.KProof

end
-- ==== Proof.Sched.lean ====
/-
The protocol. Every device has one barrier cell and, for each offset `o` from 1 to 15, four transfer cells. Each cell has
one round.

* Barrier of `c`: fifteen units, one from each other device. The unit that comes from the device `o` further on hands `c`
  that device's slot `16 - o` and row `16 - o` — where `c`'s own block and maximum will go, `c` being `16 - o` further on
  from it — and says that its two landing cells at `16 - o` are at their round.
* Data sent, `o`: the transfer gives `c` back the columns of the device `o` further on.
* Data landed, `o`: slot `o` of `c` holds `c`'s columns of the product of the device `o` back.
* Maximum sent, `o`: the transfer gives `c` back its share of row 0. (All fifteen transfers read that row at once.)
* Maximum landed, `o`: row `o` of `c` holds the maximum of the device `o` back.
-/
module

public import proofs.«01_k».proof.Proof.Land
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (X : Dev nD → Vec F S256x4096 .f32) (W : Dev nD → Vec F S4096x2048 .f32)

/-! ## The cells -/

abbrev barCell (c : Dev nD) : GSem nD τ sig := ((c : Thread nD τ), .reg barS)
/-- The transfer cell of kind `k` at offset `o`. -/
abbrev xCell (c : Dev nD) (k : Fin 4) (o : Fin 16) : GSem nD τ sig := ((c : Thread nD τ), .dma (xS k o))

/-- The units of a block's transfer and of a maximum's. -/
abbrev Nd : ℕ := (commSlot 0).view.dmaCredit
abbrev Na : ℕ := (amaxRow 0).view.dmaCredit
theorem Nd_pos : 0 < Nd := View.dmaCredit_pos _ (by decide)
theorem Na_pos : 0 < Na := View.dmaCredit_pos _ (by decide)
/-- The units of a transfer of kind `k`. -/
def credOf (k : ℕ) : ℕ := if k < 2 then Nd else Na
theorem credOf_pos (k : ℕ) : 0 < credOf k := by
  unfold credOf
  split
  · exact Nd_pos
  · exact Na_pos

/-! ## The pieces, held -/

/-- The columns of the product that belong to `p`, at device `c`. -/
def yPts (c p : Dev nD) : sProp 𝕄 := ((c : Thread nD τ).loc cc0_scratch0) ↦[ySet p]{fullShare} yT X W c
/-- Slot `o` of device `c`'s landing buffer. -/
def cPts (c : Dev nD) (o : Fin 16) (f : (cc0_scratch2 : Ref sig .tc).ty.Contents (Elt F)) : sProp 𝕄 :=
  ((c : Thread nD τ).loc cc0_scratch2) ↦[cSet o]{fullShare} f
/-- A share of row `o` of device `c`'s maxima. -/
def aPts (c : Dev nD) (o : Fin 16) (q : PosShare TreeShare) (f : (cc0_scratch1 : Ref sig .tc).ty.Contents (Elt F)) : sProp 𝕄 :=
  ((c : Thread nD τ).loc cc0_scratch1) ↦[aSet o]{q} f
/-- Device `p`'s rows of the result, at device `c`. -/
def oPts (c p : Dev nD) (f : (cc0_stg2_0 : Ref sig .tc).ty.Contents (Elt F)) : sProp 𝕄 :=
  ((c : Thread nD τ).loc cc0_stg2_0) ↦[oSet p]{fullShare} f

/-- What lets the transfers at offset `r + 1` land at device `p`: the slot, the row, and that both landing cells are at
    their round. -/
def land (p : Dev nD) (r : Fin 15) : sProp 𝕄 :=
  iprop((∃ f, cPts p r.succ f) ∗ (∃ f, aPts p r.succ fullShare f)
    ∗ reached ER (xCell p 1 r.succ) 0 ∗ reached ER (xCell p 3 r.succ) 0)

/-- What the `d`-th unit at `c`'s barrier hands over. -/
def barPay (c : Dev nD) (d : Fin 15) : sProp 𝕄 := land (fwd c d.rev.succ) d.rev

/-- What a transfer cell of kind `k` at offset `o` hands over. -/
def xPay (c : Dev nD) (k : ℕ) (o : Fin 16) : sProp 𝕄 :=
  if k = 0 then yPts X W c (fwd c o)
  else if k = 1 then cPts c o (cT X W c)
  else if k = 2 then aPts c 0 (leaf 4 fullShare o) (aT X W c)
  else aPts c o fullShare (aT X W c)

omit [FloatOps F] in
instance land_storable (p : Dev nD) (r : Fin 15) : BI.Storable (upEmb : UEmb _ 𝕄) (land (F := F) p r) := by
  unfold land cPts aPts; infer_instance
instance xPay_storable (c : Dev nD) (k : ℕ) (o : Fin 16) : BI.Storable (upEmb : UEmb _ 𝕄) (xPay X W c k o) := by
  unfold xPay yPts cPts aPts
  (repeat' split) <;> infer_instance

/-! ## The schedule -/

/-- Kind and offset of the transfer semaphore numbered `q`. -/
abbrev kindOf (q : DmaSem sig) : ℕ := (q.val - 3) / 16
abbrev offOf (q : DmaSem sig) : Fin 16 := ⟨(q.val - 3) % 16, Nat.mod_lt _ (by decide)⟩

theorem kindOf_xS (k : Fin 4) (o : Fin 16) : kindOf (xS k o) = k.val := by unfold kindOf; rw [xS_val]; omega
theorem offOf_xS (k : Fin 4) (o : Fin 16) : offOf (xS k o) = o := Fin.ext (by show ((xS k o).val - 3) % 16 = o.val; rw [xS_val]; omega)

/-- The duties of a cell's one round. -/
def dutiesOf : SemLoc sig → Finset (Fin 15)
  | .reg _ => Finset.univ
  | .dma q => if (offOf q).val = 0 then ∅ else {0}

def Rd : Rounds.Schedule (GSem nD τ sig) (Fin 15) 𝕄 where
  duties g r := if r = 0 ∧ g.1.2 = .tc then dutiesOf g.2 else ∅
  unitless _ := False
  amount g _ _ := match g.2 with
    | .reg _ => 1
    | .dma q => credOf (kindOf q)
  payload g _ d := match g.2 with
    | .reg _ => barPay g.1.1 d
    | .dma q => xPay X W g.1.1 (kindOf q) (offOf q)
  amount_pos g _ _ _ := by
    obtain ⟨t, s⟩ := g
    cases s with
    | reg q => exact Nat.one_pos
    | dma q => exact credOf_pos _

instance Rd_payload_storable (g : GSem nD τ sig) (r : ℕ) (d : Fin 15) :
    BI.Storable (upEmb : UEmb _ 𝕄) ((Rd X W).payload g r d) := by
  obtain ⟨t, s⟩ := g
  cases s with
  | reg q => exact land_storable _ _
  | dma q => exact xPay_storable X W _ _ _

section Tables
variable (c : Dev nD) (k : Fin 4) (r : Fin 15)

theorem duties_tc (s : SemLoc sig) : (Rd X W).duties ((c : Thread nD τ), s) 0 = dutiesOf s := by
  dsimp only [Rd]
  exact if_pos ⟨rfl, rfl⟩
theorem duties_bar : (Rd X W).duties (barCell c) 0 = Finset.univ := duties_tc X W c _
theorem duties_x : (Rd X W).duties (xCell c k r.succ) 0 = {0} := by
  refine (duties_tc X W c _).trans ?_
  show (if (offOf (xS k r.succ)).val = 0 then ∅ else {0}) = ({0} : Finset (Fin 15))
  rw [offOf_xS]
  exact if_neg (Nat.succ_ne_zero _)
theorem duties_x0 : (Rd X W).duties (xCell c k 0) 0 = ∅ := by
  refine (duties_tc X W c _).trans ?_
  show (if (offOf (xS k 0)).val = 0 then ∅ else {0}) = (∅ : Finset (Fin 15))
  rw [offOf_xS]
  exact if_pos rfl
theorem duties_later (g : GSem nD τ sig) : ∀ n, 1 ≤ n → (Rd X W).duties g n = ∅ := fun n hn => by
  dsimp only [Rd]
  exact if_neg fun h => by omega

theorem amount_bar (d : Fin 15) : (Rd X W).amount (barCell c) 0 d = 1 := rfl
theorem amount_x (o : Fin 16) (d : Fin 15) : (Rd X W).amount (xCell c k o) 0 d = credOf k.val := by
  show credOf (kindOf (xS k o)) = _
  rw [kindOf_xS]
theorem expect_bar : (Rd X W).expect (barCell c) 0 = 15 := by
  unfold Schedule.expect Schedule.amountOf
  rw [duties_bar, Finset.sum_congr rfl fun d _ => amount_bar X W c d, Finset.sum_const, Finset.card_univ, Fintype.card_fin, smul_eq_mul]
theorem expect_x : (Rd X W).expect (xCell c k r.succ) 0 = credOf k.val := by
  unfold Schedule.expect Schedule.amountOf
  rw [duties_x, Finset.sum_singleton, amount_x]

theorem payload_bar (d : Fin 15) : (Rd X W).payload (barCell c) 0 d = barPay c d := rfl
theorem payload_x (o : Fin 16) (d : Fin 15) : (Rd X W).payload (xCell c k o) 0 d = xPay X W c k.val o := by
  show xPay X W c (kindOf (xS k o)) (offOf (xS k o)) = _
  rw [kindOf_xS, offOf_xS]
/-- What the barrier hands over in all: at every other device, the room for what goes there. -/
theorem rest_bar : bigSep ((Rd X W).duties (barCell c) 0 \ ∅) (fun d => (Rd X W).payload (barCell c) 0 d)
    = bigSep Finset.univ fun r : Fin 15 => land (F := F) (fwd c r.succ) r := by
  rw [Finset.sdiff_empty, duties_bar, bigSep_univ_equiv (Fin.revPerm (n := 15))]
  refine bigSep_congr fun d _ => ?_
  rw [payload_bar]
  unfold barPay
  rw [Fin.revPerm_apply, Fin.rev_rev]
theorem rest_x : bigSep ((Rd X W).duties (xCell c k r.succ) 0 \ ∅) (fun d => (Rd X W).payload (xCell c k r.succ) 0 d) = xPay X W c k.val r.succ := by
  rw [Finset.sdiff_empty, duties_x, bigSep_singleton, payload_x]

end Tables

/-! ## Levels, and what each device owes -/

def L (g : GSem nD τ sig) : Finset Unit := if g.1.2 = .tc then {()} else ∅
/-- The landing semaphores. -/
abbrev IsLanding (s : SemLoc sig) : Prop := match s with
  | .reg _ => False
  | .dma q => kindOf q % 2 = 1
/-- Barrier cells at 1, landing cells at 2, everything else at 0. -/
def lv (g : GSem nD τ sig) (_ : Unit) : ℕ := match g.2 with
  | .reg _ => 1
  | .dma q => if kindOf q % 2 = 1 then 2 else 0

theorem L_of_ne (g : GSem nD τ sig) (h : g.1.2 ≠ .tc) : L g = ∅ := if_neg h
theorem L_tc (c : Dev nD) (sm : SemLoc sig) : L ((c : Thread nD τ), sm) = {()} := if_pos rfl

/-- The two landings that the transfers at offset `r + 1` owe. -/
def sendOwe (c : Dev nD) (r : Fin 15) : CellTallies nD τ sig Unit :=
  tallyAt (xCell (fwd c r.succ) 3 r.succ) () Na + tallyAt (xCell (fwd c r.succ) 1 r.succ) () Nd
/-- The barrier unit owed to the device `r + 1` further on. -/
def sigOwe (c : Dev nD) (r : Fin 15) : CellTallies nD τ sig Unit := tallyAt (barCell (fwd c r.succ)) () 1
/-- The sum of `f` over the steps from `k` on. -/
def owing (f : Fin 15 → CellTallies nD τ sig Unit) (k : ℕ) : CellTallies nD τ sig Unit :=
  ∑ r ∈ Finset.univ.filter (fun r : Fin 15 => k ≤ r.val), f r

theorem owing_step (f : Fin 15 → CellTallies nD τ sig Unit) (r : Fin 15) : owing f r.val = owing f (r.val + 1) + f r := by
  have e : Finset.univ.filter (fun s : Fin 15 => r.val ≤ s.val) = insert r (Finset.univ.filter (fun s : Fin 15 => r.val + 1 ≤ s.val)) := by
    ext s
    simp only [Finset.mem_filter, Finset.mem_univ, true_and, Finset.mem_insert, Fin.ext_iff]
    omega
  unfold owing
  rw [e, Finset.sum_insert (by simp), add_comm]
theorem owing_end (f : Fin 15 → CellTallies nD τ sig Unit) : owing f 15 = 0 := by
  unfold owing
  rw [Finset.filter_false_of_mem (fun s _ => by omega), Finset.sum_empty]
theorem owing_zero (f : Fin 15 → CellTallies nD τ sig Unit) : owing f 0 = ∑ r, f r := by
  unfold owing
  rw [Finset.filter_true_of_mem (fun s _ => Nat.zero_le _)]

/-- What `c` owes at launch: the landings it will cause and its barrier units. -/
def O₀ (c : Dev nD) : CellTallies nD τ sig Unit := owing (sendOwe c) 0 + owing (sigOwe c) 0

theorem owing_pos {f : Fin 15 → CellTallies nD τ sig Unit} {k : ℕ} {g : GSem nD τ sig} {u : Unit} (h : 0 < owing f k g u) :
    ∃ r, 0 < f r g u := by
  unfold owing at h
  rw [Finset.sum_apply, Finsupp.finset_sum_apply] at h
  obtain ⟨r, _, hr⟩ := Finset.exists_ne_zero_of_sum_ne_zero (Nat.pos_iff_ne_zero.mp h)
  exact ⟨r, Nat.pos_iff_ne_zero.mpr hr⟩
theorem tally_pos {g g' : GSem nD τ sig} {n : ℕ} {u : Unit} (h : 0 < tallyAt g () n g' u) : g' = g := by
  rw [tallyAt_apply] at h
  by_contra hn
  rw [if_neg (fun h' => hn h'.1)] at h
  exact Nat.lt_irrefl 0 h
theorem sendOwe_pos {c : Dev nD} {r : Fin 15} {g : GSem nD τ sig} {u : Unit} (h : 0 < sendOwe c r g u) :
    g = xCell (fwd c r.succ) 3 r.succ ∨ g = xCell (fwd c r.succ) 1 r.succ := by
  unfold sendOwe at h
  rw [Pi.add_apply, Finsupp.add_apply] at h
  rcases Nat.add_pos_iff_pos_or_pos.mp h with h | h
  · exact .inl (tally_pos h)
  · exact .inr (tally_pos h)

theorem lv_landing (c : Dev nD) (o : Fin 16) (u : Unit) : lv (xCell c 1 o) u = 2 ∧ lv (xCell c 3 o) u = 2 := by
  constructor
  · show (if kindOf (xS 1 o) % 2 = 1 then 2 else 0) = 2; rw [kindOf_xS]; rfl
  · show (if kindOf (xS 3 o) % 2 = 1 then 2 else 0) = 2; rw [kindOf_xS]; rfl

theorem send_level {c : Dev nD} {k : ℕ} {g : GSem nD τ sig} {u : Unit} (h : 0 < owing (sendOwe c) k g u) : u ∈ L g ∧ lv g u = 2 := by
  obtain ⟨r, hr⟩ := owing_pos h
  rcases sendOwe_pos hr with rfl | rfl
  · exact ⟨by rw [L_tc]; exact Finset.mem_singleton_self _, (lv_landing _ _ _).2⟩
  · exact ⟨by rw [L_tc]; exact Finset.mem_singleton_self _, (lv_landing _ _ _).1⟩
theorem O₀_level {c : Dev nD} {g : GSem nD τ sig} {u : Unit} (h : 0 < O₀ c g u) : u ∈ L g ∧ 1 ≤ lv g u := by
  unfold O₀ at h
  rw [Pi.add_apply, Finsupp.add_apply] at h
  rcases Nat.add_pos_iff_pos_or_pos.mp h with h | h
  · exact ⟨(send_level h).1, by rw [(send_level h).2]; decide⟩
  · obtain ⟨r, hr⟩ := owing_pos h
    rw [tally_pos hr]
    exact ⟨by rw [L_tc]; exact Finset.mem_singleton_self _, Nat.le_refl 1⟩

omit [FloatOps F] in
/-- Before the point and after it, a device may wait at a cell of level 0. -/
theorem mayWait_stage (c : Dev nD) (q : DmaSem sig) (hq : kindOf q % 2 ≠ 1) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => (O₀_level hg).1)
      (fun p hp => by rw [Finset.mem_singleton.mp hp]; show (if kindOf q % 2 = 1 then 2 else 0) ≤ 0; rw [if_neg hq])
      (fun g u hg => (O₀_level hg).2)
  · rw [MayWait_zero]; iintro -; iempintro

omit [FloatOps F] in
/-- At its barrier wait a device owes landings only, all above the barrier. -/
theorem mayWait_bar (c : Dev nD) :
    (levAts L lv : sProp 𝕄) ⊢ MayWait (c : Thread nD τ) (.reg barS) () (owing (sendOwe c) 0) :=
  MayOwe.of_cut (L := L) (lev := lv) 1 (fun p hp => by rw [Finset.mem_singleton.mp hp, L_tc]; exact Finset.mem_singleton_self _)
    (fun g u hg => (send_level hg).1)
    (fun p hp => by rw [Finset.mem_singleton.mp hp]; exact Nat.le_refl 1)
    (fun g u hg => by rw [(send_level hg).2]; decide)

end Cert.KProof

end
-- ==== Proof.Steps.lean ====
/-
The steps of the body, one rule each, and the rule of a loop.
-/
module

public import proofs.«01_k».proof.Proof.Sched

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

abbrev 𝒱₀ : Variants := Variants.none

/-- The weakest precondition of a program at device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loops -/

omit [FloatOps F] in
theorem bigSep_first {n : ℕ} (Φ : Fin (n + 1) → sProp 𝕄) :
    bigSep Finset.univ Φ = iprop(Φ 0 ∗ bigSep Finset.univ fun i : Fin n => Φ i.succ) := by
  rw [Fin.univ_succ, Finset.cons_eq_insert, BI.bigSep_insert (by simp), BI.bigSep_map]
  rfl

/-- A loop whose `i`-th step takes the state `T i` and the piece `P i` to `T (i + 1)` and `Q i`. -/
theorem wp_loop (c : Dev nD) : ∀ (n : ℕ) (f : Fin n → Prog (TpuEff nD τ sig (Elt F) Λ₀ .tc) PUnit) (T : ℕ → sProp 𝕄) (P Q : Fin n → sProp 𝕄),
    (∀ i : Fin n, iprop(T i.val ∗ P i) ⊢ WP c (f i) fun _ => iprop(T (i.val + 1) ∗ Q i)) →
    iprop(T 0 ∗ bigSep Finset.univ P) ⊢ WP c (loop n f) fun _ => iprop(T n ∗ bigSep Finset.univ Q)
  | 0, f, T, P, Q, h => by
    unfold loop WP
    rw [Prog.pure_eq_ret, wp_ret, show (Finset.univ : Finset (Fin 0)) = ∅ from rfl, bigSep_empty, bigSep_empty]
    iintro H; imodintro; iexact H
  | n + 1, f, T, P, Q, h => by
    unfold loop WP
    rw [wp_bind, bigSep_first P, bigSep_first Q]
    iintro ⟨HT, HP, HR⟩
    iapply (wp_mono frame (wpE (defs₀ (F := F)) 𝒱₀ (c : Thread nD τ) none) Set.univ
      (Q := fun _ => iprop((T 1 ∗ Q 0) ∗ bigSep Finset.univ fun i : Fin n => P i.succ)) fun _ => by
        iintro ⟨⟨HT, HQ⟩, HR⟩
        iapply (wp_mono frame (wpE (defs₀ (F := F)) 𝒱₀ (c : Thread nD τ) none) Set.univ
          (Q := fun _ => iprop((T (n + 1) ∗ bigSep Finset.univ fun i : Fin n => Q i.succ) ∗ Q 0)) fun _ => by
            iintro ⟨⟨HT, HR⟩, HQ⟩
            isplitl [HT]; · iexact HT
            isplitl [HQ]; · iexact HQ
            iexact HR)
        iapply (wp_frame_r frame (wpE (defs₀ (F := F)) 𝒱₀ (c : Thread nD τ) none) Set.univ)
        isplitl [HT HR]
        · iapply (wp_loop c n (fun i => f i.succ) (fun k => T (k + 1)) (fun i => P i.succ) (fun i => Q i.succ) (fun i => h i.succ))
          isplitl [HT]; · iexact HT
          iexact HR
        · iexact HQ)
    iapply (wp_frame_r frame (wpE (defs₀ (F := F)) 𝒱₀ (c : Thread nD τ) none) Set.univ)
    isplitl [HT HP]
    · iapply (show iprop(T 0 ∗ P 0) ⊢ WP c (f 0) fun _ => iprop(T 1 ∗ Q 0) from h 0)
      isplitl [HT]; · iexact HT
      iexact HP
    · iexact HR

/-! ## The records every device holds -/

variable (X : Dev nD → Vec F S256x4096 .f32) (W : Dev nD → Vec F S4096x2048 .f32)

/-- One device's cells: its barrier and its sixty-four transfer semaphores. -/
abbrev Cix : Type := Unit ⊕ (Fin 4 × Fin 16)
abbrev csem : Cix → SemLoc sig
  | .inl _ => .reg barS
  | .inr ko => .dma (xS ko.1 ko.2)
abbrev kcell (ck : Dev nD × Cix) : GSem nD τ sig := ((ck.1 : Thread nD τ), csem ck.2)

variable (K : Dev nD × Cix → ℕ)

/-- Every cell's invariant, and that it has reached its round. -/
def recs : sProp 𝕄 :=
  bigSep Finset.univ fun ck : Dev nD × Cix => iprop(cellInv ER (Rd X W) (K ck) (kcell ck) ∗ reached ER (kcell ck) 0)

instance recs_persistent : BI.Persistent (recs X W K) := by unfold recs; infer_instance

theorem inv_at (ck : Dev nD × Cix) : recs X W K ⊢ cellInv ER (Rd X W) (K ck) (kcell ck) := by
  unfold recs
  rw [bigSep_univ_at _ ck]
  iintro ⟨⟨H, -⟩, -⟩; iexact H
theorem reached_at (ck : Dev nD × Cix) : recs X W K ⊢ reached ER (kcell ck) 0 := by
  unfold recs
  rw [bigSep_univ_at _ ck]
  iintro ⟨⟨-, H⟩, -⟩; iexact H

/-- What a step of a loop keeps: the records and what the device still owes. -/
def keep (c : Dev nD) (O : CellTallies nD τ sig Unit) : sProp 𝕄 := iprop(recs X W K ∗ ∃ Wt, owes (c : Thread nD τ) O Wt)

/-! ## The signals -/

theorem sig_step (c : Dev nD) (r : Fin 15) :
    iprop(keep X W K c (owing (sendOwe c) 0 + owing (sigOwe c) r.val) ∗ (dutyTok ER (barCell (fwd c r.succ)) 0 r ∗ land c r.rev))
      ⊢ WP c (sigStep c r) fun _ => iprop(keep X W K c (owing (sendOwe c) 0 + owing (sigOwe c) (r.val + 1)) ∗ emp) := by
  have e : owing (sendOwe c) 0 + owing (sigOwe c) r.val
      = owing (sendOwe c) 0 + owing (sigOwe c) (r.val + 1) + tallyAt (barCell (fwd c r.succ)) () 1 := by
    rw [owing_step (sigOwe c) r, ← add_assoc]; rfl
  unfold sigStep keep WP
  simp only [semSignalWord, Prog.lift]
  rw [sigDev_eq, e]
  iintro ⟨⟨#HK, ⟨%Wt, HO⟩⟩, Htok, Hland⟩
  ihave #HI := (inv_at X W K (fwd c r.succ, .inl ())) $$ HK
  ihave #HR := (reached_at X W K (fwd c r.succ, .inl ())) $$ HK
  iapply (Rounds.wp_signal 𝒱₀ ER (Rd X W) (c : Thread nD τ) none (dst := (fwd c r.succ : Thread nD τ)) (κ := K (fwd c r.succ, .inl ()))
      (d := r) (by rw [duties_bar]; exact Finset.mem_univ _) ((amount_bar X W (fwd c r.succ) r).trans (by decide)) ()
      (owing (sendOwe c) 0 + owing (sigOwe c) (r.val + 1)) rfl)
    $$ [HO Htok Hland]
  · isplitr; · iexact HI
    isplitl [HO]; · iexact HO
    isplitl [Htok]; · iexact Htok
    isplitl [Hland]
    · rw [payload_bar]; unfold barPay; rw [fwd_rev]; iexact Hland
    · iexact HR
  iintro HO
  rw [wp_ret]; imodintro
  isplitl [HO]
  · isplitr; · iexact HK
    iexists Wt; iexact HO
  · iempintro

/-! ## The wait at the barrier -/

theorem wait_step (c : Dev nD) :
    iprop(keep X W K c (owing (sendOwe c) 0) ∗ (cred (tallyAt (barCell c) () 15) ∗ atPos ER (barCell c) 0 ∅ 0 ∗ levAts L lv))
      ⊢ WP c (semWaitWord barS 15#32) fun _ => iprop(keep X W K c (owing (sendOwe c) 0)
          ∗ ((bigSep Finset.univ fun r : Fin 15 => land (fwd c r.succ) r) ∗ semVal (barCell c) 0)) := by
  unfold keep WP
  simp only [semWaitWord, Prog.lift]
  iintro ⟨⟨#HK, ⟨%Wt, HO⟩⟩, Hc, Hat, #Hlev⟩
  ihave #HI := (inv_at X W K (c, .inl ())) $$ HK
  iapply (Rounds.wp_wait_rest_token 𝒱₀ ER (Rd X W) (c : Thread nD τ) none (κ := K (c, .inl ()))
      (wpE_semWait_eq 𝒱₀ (c : Thread nD τ) none Set.univ) (Set.mem_univ _) () (O := owing (sendOwe c) 0) (W := Wt) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar X W c)) $$ Hpay
  imod (Rounds.cell_close ER (Rd X W) (Set.mem_univ (K (c, .inl ()))) (fun h => h) (R := 0 + 1) (duties_later X W (barCell c))) $$ [Hat] with Hz
  · isplitr; · iexact HI
    iexact Hat
  rw [wp_ret]; imodintro
  isplitl [HO]
  · isplitr; · iexact HK
    iexists _; iexact HO
  isplitl [Hp]; · iexact Hp
  iexact Hz

/-! ## The product -/

theorem setOn_whole (b : Ref sig .tc) (M : Finset b.ty.shape.Idx) : (View.whole b : View sig .tc _ _ _).setOn M = M := Finset.map_refl

theorem mat_step (c : Dev nD) :
    iprop((((c : Thread nD τ).loc cc0_stg0_0) ↦{fullShare} X c) ∗ (((c : Thread nD τ).loc cc0_stg1_0) ↦{fullShare} W c)
        ∗ (∃ f, ((c : Thread nD τ).loc cc0_scratch0) ↦{fullShare} f) ∗ (∃ f, aPts c 0 fullShare f))
      ⊢ WP c matStep fun _ => iprop((((c : Thread nD τ).loc cc0_stg0_0) ↦{fullShare} X c) ∗ (((c : Thread nD τ).loc cc0_stg1_0) ↦{fullShare} W c)
        ∗ (((c : Thread nD τ).loc cc0_scratch0) ↦{fullShare} yT X W c) ∗ aPts c 0 fullShare (aT X W c)) := by
  unfold matStep WP aPts
  simp only [Prog.lift, Prog.bind_op, Prog.bind_ret]
  iintro ⟨Hx, Hw, ⟨%fy, Hy⟩, ⟨%fa, Ha⟩⟩
  iapply (wp_load 𝒱₀ (c : Thread nD τ) none Set.univ (m := xM) (Finset.subset_univ _)) $$ Hx; iintro Hx
  rw [read_allX]
  iapply (wp_load 𝒱₀ (c : Thread nD τ) none Set.univ (m := wM) (Finset.subset_univ _)) $$ Hw; iintro Hw
  rw [read_allW]
  iapply (wp_load 𝒱₀ (c : Thread nD τ) none Set.univ (m := yM) (Finset.subset_univ _)) $$ Hy; iintro Hy
  iapply (wp_store 𝒱₀ (c : Thread nD τ) none Set.univ (m := yM) (r := allY) (Mk := Finset.univ) (Finset.subset_univ _)) $$ Hy; iintro Hy
  rw [write_allY]
  iapply (wp_load 𝒱₀ (c : Thread nD τ) none Set.univ (m := aM) (S := aSet 0) (by rw [setOn_whole]; exact (rect_aSet 0).subset)) $$ Ha; iintro Ha
  iapply (wp_store 𝒱₀ (c : Thread nD τ) none Set.univ (m := aM) (r := amaxR 0) (Mk := Finset.univ) (S := aSet 0)
    (by rw [View.setOn_univ]; exact (amaxRow_set 0).subset)) $$ Ha; iintro Ha
  rw [wp_ret]; imodintro
  isplitl [Hx]; · iexact Hx
  isplitl [Hw]; · iexact Hw
  isplitl [Hy]; · iexact Hy
  iapply (Entails.of_eq (pointsTo_congr (stored_amax X W c fa)))
  iexact Ha

/-- The block a device keeps goes to its rows of the result. -/
theorem keep_step (c : Dev nD) :
    iprop(yPts X W c c ∗ ∃ f, oPts c c f) ⊢ WP c (keepStep c) fun _ => iprop(yPts X W c c ∗ oPts c c (oT X W c)) := by
  unfold keepStep WP yPts oPts
  simp only [Prog.lift, Prog.bind_op, Prog.bind_ret]
  iintro ⟨Hy, ⟨%f, Ho⟩⟩
  iapply (wp_load 𝒱₀ (c : Thread nD τ) none Set.univ (m := yM) (S := ySet c) (by rw [setOn_whole]; exact (ownR_set c).subset)) $$ Hy; iintro Hy
  iapply (wp_load 𝒱₀ (c : Thread nD τ) none Set.univ (m := oM) (S := oSet c) (by rw [setOn_whole]; exact (ownO_set c).subset)) $$ Ho; iintro Ho
  iapply (wp_store 𝒱₀ (c : Thread nD τ) none Set.univ (m := oM) (r := ownO c) (Mk := Finset.univ) (S := oSet c)
    (by rw [View.setOn_univ]; exact ((View.set_slice_whole _ _).trans (ownO_set c)).subset)) $$ Ho; iintro Ho
  rw [wp_ret]; imodintro
  isplitl [Hy]; · iexact Hy
  iapply (Entails.of_eq (pointsTo_congr (stored_own X W c f)))
  iexact Ho

/-! ## The transfers -/

theorem credit_comm (o : Fin 16) : (commSlot o).view.dmaCredit = Nd := rfl
theorem credit_cols (c : Dev nD) (r : Fin 15) : (ySlice c r).view.dmaCredit = Nd := rfl
theorem credit_row (o : Fin 16) : (amaxRow o).view.dmaCredit = Na := rfl
theorem amount_comm (o : Fin 16) (q : DmaSem sig) : (commSlot o).view.amount (.dma q) = Nd := rfl
theorem amount_row (o : Fin 16) (q : DmaSem sig) : (amaxRow o).view.amount (.dma q) = Na := rfl
theorem credOf_data (k : ℕ) (h : k < 2) : credOf k = Nd := if_pos h
theorem credOf_amax (k : ℕ) (h : ¬ k < 2) : credOf k = Na := if_neg h

/-- The block's transfer to `n`, the device `r + 1` further on. -/
theorem send_data (c n : Dev nD) (r : Fin 15) (hn : n = fwd c r.succ)
    {hsc : (commSlot r.succ : Memref sig (Dev.tc n : Thread nD τ).2.kind .vmem S256x128 .f32).view.ref.isScScratch = false}
    {hsrc : (ySlice c r).view.WordExact} {hdst : (commSlot r.succ).view.WordExact}
    {hsem : DmaTarget.Typed .vmem (.dma (xS 1 r.succ)) (.remote (Dev.tc n : Thread nD τ) (commSlot r.succ) (.dma (xS 0 r.succ)) hsc)}
    {α : Type} {Q : α → sProp 𝕄} {k : PUnit → Prog (TpuEff nD τ sig (Elt F) Λ₀ .tc) α}
    (f : (cc0_scratch2 : Ref sig .tc).ty.Contents (Elt F)) (O : CellTallies nD τ sig Unit) (Wt : Waits sig Unit) :
    iprop(recs X W K ∗ yPts X W c (fwd c r.succ) ∗ cPts (fwd c r.succ) r.succ f
        ∗ owes (c : Thread nD τ) (O + tallyAt (xCell (fwd c r.succ) 1 r.succ) () Nd) Wt
        ∗ dutyTok ER (xCell c 0 r.succ) 0 0 ∗ dutyTok ER (xCell (fwd c r.succ) 1 r.succ) 0 0)
      ⊢ iprop(((cred (tallyAt (xCell c 0 r.succ) () Nd) ∗ owes (c : Thread nD τ) O Wt) -∗ WP c (k ⟨⟩) Q)
          -∗ WP c (.op (.enqueueDma (ySlice c r) (.remote (Dev.tc n : Thread nD τ) (commSlot r.succ) (.dma (xS 0 r.succ)) hsc) (.dma (xS 1 r.succ)) hsrc hdst hsem) k) Q) := by
  subst hn
  iintro ⟨#HK, Hy, Hc, HO, Ht0, Ht1⟩
  ihave #HI0 := (inv_at X W K (c, .inr (0, r.succ))) $$ HK
  ihave #HI1 := (inv_at X W K (fwd c r.succ, .inr (1, r.succ))) $$ HK
  ihave #HR0 := (reached_at X W K (c, .inr (0, r.succ))) $$ HK
  ihave #HR1 := (reached_at X W K (fwd c r.succ, .inr (1, r.succ))) $$ HK
  unfold yPts cPts WP
  rw [← ySlice_set c r, ← commSlot_set r.succ]
  iapply (Rounds.wp_send_pointsTo 𝒱₀ ER (Rd X W) (c : Thread nD τ) none (κ₁ := K (c, .inr (0, r.succ))) (κ₂ := K (fwd c r.succ, .inr (1, r.succ)))
    (r₁ := 0) (r₂ := 0) (d₁ := 0) (d₂ := 0) (fd := f)
    (by rw [duties_x]; exact Finset.mem_singleton_self _) (by rw [duties_x]; exact Finset.mem_singleton_self _)
    () () Nd (amount_comm r.succ (xS 1 r.succ)) ((amount_x X W c 0 _ 0).trans (credOf_data _ (by decide))) ((amount_x X W (fwd c r.succ) 1 _ 0).trans (credOf_data _ (by decide))) O rfl (W := Wt)
    (by rw [payload_x]; show _ ⊢ yPts X W c (fwd c r.succ); unfold yPts; rw [ySlice_set])
    (by
      rw [payload_x, commSlot_set, pointsTo_congr (landed_data X W c r f)]
      exact BI.Entails.refl _)) $$ [Hy Hc HO Ht0 Ht1]
  isplitr; · iexact HI0
  isplitr; · iexact HI1
  isplitl [Hy]; · iexact Hy
  isplitl [Hc]; · iexact Hc
  isplitl [HO]; · iexact HO
  isplitl [Ht0]; · iexact Ht0
  isplitr; · iexact HR0
  isplitl [Ht1]; · iexact Ht1
  iexact HR1

/-- The maximum's transfer to `n`, the device `r + 1` further on. -/
theorem send_amax (c n : Dev nD) (r : Fin 15) (hn : n = fwd c r.succ)
    {hsc : (amaxRow r.succ : Memref sig (Dev.tc n : Thread nD τ).2.kind .vmem S1x128 .f32).view.ref.isScScratch = false}
    {hsrc : (amaxRow 0).view.WordExact} {hdst : (amaxRow r.succ).view.WordExact}
    {hsem : DmaTarget.Typed .vmem (.dma (xS 3 r.succ)) (.remote (Dev.tc n : Thread nD τ) (amaxRow r.succ) (.dma (xS 2 r.succ)) hsc)}
    {α : Type} {Q : α → sProp 𝕄} {k : PUnit → Prog (TpuEff nD τ sig (Elt F) Λ₀ .tc) α}
    (f : (cc0_scratch1 : Ref sig .tc).ty.Contents (Elt F)) (O : CellTallies nD τ sig Unit) (Wt : Waits sig Unit) :
    iprop(recs X W K ∗ aPts c 0 (leaf 4 fullShare r.succ) (aT X W c) ∗ aPts (fwd c r.succ) r.succ fullShare f
        ∗ owes (c : Thread nD τ) (O + tallyAt (xCell (fwd c r.succ) 3 r.succ) () Na) Wt
        ∗ dutyTok ER (xCell c 2 r.succ) 0 0 ∗ dutyTok ER (xCell (fwd c r.succ) 3 r.succ) 0 0)
      ⊢ iprop(((cred (tallyAt (xCell c 2 r.succ) () Na) ∗ owes (c : Thread nD τ) O Wt) -∗ WP c (k ⟨⟩) Q)
          -∗ WP c (.op (.enqueueDma (amaxRow 0) (.remote (Dev.tc n : Thread nD τ) (amaxRow r.succ) (.dma (xS 2 r.succ)) hsc) (.dma (xS 3 r.succ)) hsrc hdst hsem) k) Q) := by
  subst hn
  iintro ⟨#HK, Ha, Hd, HO, Ht0, Ht1⟩
  ihave #HI0 := (inv_at X W K (c, .inr (2, r.succ))) $$ HK
  ihave #HI1 := (inv_at X W K (fwd c r.succ, .inr (3, r.succ))) $$ HK
  ihave #HR0 := (reached_at X W K (c, .inr (2, r.succ))) $$ HK
  ihave #HR1 := (reached_at X W K (fwd c r.succ, .inr (3, r.succ))) $$ HK
  unfold aPts WP
  rw [← amaxRow_set 0, ← amaxRow_set r.succ]
  iapply (Rounds.wp_send_pointsTo 𝒱₀ ER (Rd X W) (c : Thread nD τ) none (κ₁ := K (c, .inr (2, r.succ))) (κ₂ := K (fwd c r.succ, .inr (3, r.succ)))
    (r₁ := 0) (r₂ := 0) (d₁ := 0) (d₂ := 0) (fd := f)
    (by rw [duties_x]; exact Finset.mem_singleton_self _) (by rw [duties_x]; exact Finset.mem_singleton_self _)
    () () Na (amount_row r.succ (xS 3 r.succ)) ((amount_x X W c 2 _ 0).trans (credOf_amax _ (by decide))) ((amount_x X W (fwd c r.succ) 3 _ 0).trans (credOf_amax _ (by decide))) O rfl (W := Wt)
    (by rw [payload_x]; show _ ⊢ aPts c 0 (leaf 4 fullShare r.succ) (aT X W c); unfold aPts; rw [amaxRow_set])
    (by
      rw [payload_x, amaxRow_set, pointsTo_congr (landed_amax X W c r.succ f)]
      exact BI.Entails.refl _)) $$ [Ha Hd HO Ht0 Ht1]
  isplitr; · iexact HI0
  isplitr; · iexact HI1
  isplitl [Ha]; · iexact Ha
  isplitl [Hd]; · iexact Hd
  isplitl [HO]; · iexact HO
  isplitl [Ht0]; · iexact Ht0
  isplitr; · iexact HR0
  isplitl [Ht1]; · iexact Ht1
  iexact HR1

/-- What the two transfers at offset `r + 1` take from the device that makes them. -/
def toSend (c : Dev nD) (r : Fin 15) : sProp 𝕄 :=
  iprop(yPts X W c (fwd c r.succ) ∗ aPts c 0 (leaf 4 fullShare r.succ) (aT X W c) ∗ land (fwd c r.succ) r
    ∗ (dutyTok ER (xCell c 0 r.succ) 0 0 ∗ dutyTok ER (xCell (fwd c r.succ) 1 r.succ) 0 0)
    ∗ (dutyTok ER (xCell c 2 r.succ) 0 0 ∗ dutyTok ER (xCell (fwd c r.succ) 3 r.succ) 0 0))

theorem send_step (c : Dev nD) (r : Fin 15) :
    iprop(keep X W K c (owing (sendOwe c) r.val) ∗ toSend X W c r)
      ⊢ WP c (sendStep c r) fun _ => iprop(keep X W K c (owing (sendOwe c) (r.val + 1))
          ∗ (cred (tallyAt (xCell c 0 r.succ) () Nd) ∗ cred (tallyAt (xCell c 2 r.succ) () Na))) := by
  have e : owing (sendOwe c) r.val = owing (sendOwe c) (r.val + 1) + tallyAt (xCell (fwd c r.succ) 3 r.succ) () Na
      + tallyAt (xCell (fwd c r.succ) 1 r.succ) () Nd := by
    rw [owing_step (sendOwe c) r, add_assoc]; rfl
  unfold sendStep keep toSend land
  rw [e]
  simp only [Prog.lift, Prog.bind_op, Prog.bind_ret]
  iintro ⟨⟨#HK, ⟨%Wt, HO⟩⟩, Hy, Ha, ⟨⟨%fc, Hc⟩, ⟨%fd, Hd⟩, -, -⟩, ⟨Ht0, Ht1⟩, ⟨Ht2, Ht3⟩⟩
  iapply (send_data X W K c _ r (datDev_eq r c) fc _ Wt) $$ [Hy Hc HO Ht0 Ht1]
  · isplitr; · iexact HK
    isplitl [Hy]; · iexact Hy
    isplitl [Hc]; · iexact Hc
    isplitl [HO]; · iexact HO
    isplitl [Ht0]; · iexact Ht0
    iexact Ht1
  iintro ⟨Hc0, HO⟩
  iapply (send_amax X W K c _ r (amxDev_eq r c) fd _ Wt) $$ [Ha Hd HO Ht2 Ht3]
  · isplitr; · iexact HK
    isplitl [Ha]; · iexact Ha
    isplitl [Hd]; · iexact Hd
    isplitl [HO]; · iexact HO
    isplitl [Ht2]; · iexact Ht2
    iexact Ht3
  iintro ⟨Hc2, HO⟩
  unfold WP
  rw [wp_ret]; imodintro
  isplitl [HO]
  · isplitr; · iexact HK
    iexists _; iexact HO
  isplitl [Hc0]; · iexact Hc0
  iexact Hc2

/-! ## The waits for the transfers -/

/-- What a wait at transfer cell `k` of offset `r + 1` takes, and what the device has after it. -/
def toWait (c : Dev nD) (k : Fin 4) (r : Fin 15) : sProp 𝕄 :=
  iprop(cred (tallyAt (xCell c k r.succ) () (credOf k.val)) ∗ atPos ER (xCell c k r.succ) 0 ∅ 0)
def waited (c : Dev nD) (k : Fin 4) (r : Fin 15) : sProp 𝕄 := iprop(xPay X W c k.val r.succ ∗ semVal (xCell c k r.succ) 0)

theorem wait_x (c : Dev nD) (k : Fin 4) (r : Fin 15) {sp sp' : Space} {s s' : Shape} {e e' : EltTy}
    {src : Memref sig .tc sp s e} {dst : Memref sig .tc sp' s' e'} {hsrc hdst} (hN : dst.view.dmaCredit = credOf k.val)
    {α : Type} {Q : α → sProp 𝕄} {p : PUnit → Prog (TpuEff nD τ sig (Elt F) Λ₀ .tc) α} :
    iprop(keep X W K c 0 ∗ toWait c k r)
      ⊢ iprop(((keep X W K c 0 ∗ waited X W c k r) -∗ WP c (p ⟨⟩) Q) -∗ WP c (.op (.waitDma2 (xS k r.succ) src dst hsrc hdst) p) Q) := by
  unfold keep toWait waited WP
  iintro ⟨⟨#HK, ⟨%Wt, HO⟩⟩, Hc, Hat⟩ Hk
  ihave #HI := (inv_at X W K (c, .inr (k, r.succ))) $$ HK
  rw [← hN]
  iapply (Rounds.wp_wait_rest_token 𝒱₀ ER (Rd X W) (c : Thread nD τ) none (κ := K (c, .inr (k, r.succ)))
      (wpE_waitDma2_eq 𝒱₀ (c : Thread nD τ) none Set.univ) (Set.mem_univ _) () (O := 0) (W := Wt) (R := 0) (m := 0) (T := ∅)
      (by rw [Nat.zero_add, expect_x, hN])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_x X W c k r)) $$ Hpay
  imod (Rounds.cell_close ER (Rd X W) (Set.mem_univ (K (c, .inr (k, r.succ)))) (fun h => h) (R := 0 + 1) (duties_later X W (xCell c k r.succ))) $$ [Hat] with Hz
  · isplitr; · iexact HI
    iexact Hat
  iapply Hk
  isplitl [HO]
  · isplitr; · iexact HK
    iexists _; iexact HO
  isplitl [Hp]; · iexact Hp
  iexact Hz

/-- The block from the device `r + 1` back is put in its rows of the result. -/
theorem recv_step (c : Dev nD) (r : Fin 15) :
    iprop(keep X W K c 0 ∗ (toWait c 0 r ∗ toWait c 1 r ∗ ∃ f, oPts c (bwd c r.succ) f))
      ⊢ WP c (recvStep c r) fun _ => iprop(keep X W K c 0
          ∗ (waited X W c 0 r ∗ waited X W c 1 r ∗ oPts c (bwd c r.succ) (oT X W c))) := by
  unfold recvStep
  simp only [Prog.lift, Prog.bind_op, Prog.bind_ret]
  iintro ⟨HK, H0, H1, ⟨%f, Ho⟩⟩
  iapply (wait_x X W K c 0 r ((credit_cols c r).trans (credOf_data _ (by decide)).symm)) $$ [HK H0]
  · isplitl [HK] <;> iassumption
  iintro ⟨HK, H0⟩
  iapply (wait_x X W K c 1 r ((credit_comm r.succ).trans (credOf_data _ (by decide)).symm)) $$ [HK H1]
  · isplitl [HK] <;> iassumption
  iintro ⟨HK, H1⟩
  unfold waited
  icases H1 with ⟨Hc, Hz1⟩
  ihave Hc := (Entails.of_eq (show xPay X W c (1 : Fin 4).val r.succ = cPts c r.succ (cT X W c) from rfl)) $$ Hc
  unfold WP cPts oPts
  iapply (wp_load 𝒱₀ (c : Thread nD τ) none Set.univ (m := cM) (S := cSet r.succ) (by rw [setOn_whole]; exact (rect_cSet r.succ).subset)) $$ Hc; iintro Hc
  iapply (wp_load 𝒱₀ (c : Thread nD τ) none Set.univ (m := oM) (S := oSet (bwd c r.succ)) (by rw [setOn_whole]; exact (recvO_set c r).subset)) $$ Ho; iintro Ho
  iapply (wp_store 𝒱₀ (c : Thread nD τ) none Set.univ (m := oM) (r := recvO c r) (Mk := Finset.univ) (S := oSet (bwd c r.succ))
    (by rw [View.setOn_univ]; exact ((View.set_slice_whole _ _).trans (recvO_set c r)).subset)) $$ Ho; iintro Ho
  rw [wp_ret]; imodintro
  isplitl [HK]; · iexact HK
  isplitl [H0]; · iexact H0
  isplitl [Hc Hz1]
  · isplitl [Hc]
    · iapply (Entails.of_eq (show (((c : Thread nD τ).loc cc0_scratch2) ↦[cSet r.succ]{fullShare} cT X W c : sProp 𝕄)
        = xPay X W c (1 : Fin 4).val r.succ from rfl))
      iexact Hc
    iexact Hz1
  iapply (Entails.of_eq (pointsTo_congr (stored_recv X W c r f)))
  iexact Ho

theorem amax_step (c : Dev nD) (r : Fin 15) :
    iprop(keep X W K c 0 ∗ (toWait c 2 r ∗ toWait c 3 r))
      ⊢ WP c (amaxStep r) fun _ => iprop(keep X W K c 0 ∗ (waited X W c 2 r ∗ waited X W c 3 r)) := by
  unfold amaxStep
  simp only [Prog.lift, Prog.bind_op, Prog.bind_ret]
  iintro ⟨HK, H0, H1⟩
  iapply (wait_x X W K c 2 r ((credit_row 0).trans (credOf_amax _ (by decide)).symm)) $$ [HK H0]
  · isplitl [HK] <;> iassumption
  iintro ⟨HK, H0⟩
  iapply (wait_x X W K c 3 r ((credit_row r.succ).trans (credOf_amax _ (by decide)).symm)) $$ [HK H1]
  · isplitl [HK] <;> iassumption
  iintro ⟨HK, H1⟩
  unfold WP
  rw [wp_ret]; imodintro
  isplitl [HK]; · iexact HK
  isplitl [H0] <;> iassumption

/-! ## The rounding -/

theorem quant_step (c : Dev nD) :
    iprop((((c : Thread nD τ).loc cc0_scratch1) ↦{fullShare} aT X W c) ∗ (((c : Thread nD τ).loc cc0_stg2_0) ↦{fullShare} oT X W c))
      ⊢ WP c quantStep fun _ => iprop((((c : Thread nD τ).loc cc0_scratch1) ↦{fullShare} aT X W c)
          ∗ (((c : Thread nD τ).loc cc0_stg2_0) ↦{fullShare} resT X W c)) := by
  unfold quantStep WP
  simp only [Prog.lift, Prog.bind_op, Prog.bind_ret]
  iintro ⟨Ha, Ho⟩
  iapply (wp_load 𝒱₀ (c : Thread nD τ) none Set.univ (m := aM) (Finset.subset_univ _)) $$ Ha; iintro Ha
  rw [read_allA]
  iapply (wp_load 𝒱₀ (c : Thread nD τ) none Set.univ (m := oM) (Finset.subset_univ _)) $$ Ho; iintro Ho
  rw [read_allO]
  iapply (wp_load 𝒱₀ (c : Thread nD τ) none Set.univ (m := oM) (Finset.subset_univ _)) $$ Ho; iintro Ho
  iapply (wp_store 𝒱₀ (c : Thread nD τ) none Set.univ (m := oM) (r := allO) (Mk := Finset.univ) (Finset.subset_univ _)) $$ Ho; iintro Ho
  rw [write_allO, wp_ret]; imodintro
  isplitl [Ha]; · iexact Ha
  iexact Ho

end Cert.KProof

end
-- ==== Proof.Body.lean ====
/-
The whole body on one device: what it starts from, what it leaves, and the walk from the one to the other.
-/
module

public import proofs.«01_k».proof.Proof.Steps
public import Idealize.ShloMosaic.Lib.Ring

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (X : Dev nD → Vec F S256x4096 .f32) (W : Dev nD → Vec F S4096x2048 .f32) (K : Dev nD × Cix → ℕ)

/-! ## Sequencing -/

theorem wp_then (c : Dev nD) {β : Type} {p : Prog (TpuEff nD τ sig (Elt F) Λ₀ .tc) PUnit} {k : PUnit → Prog (TpuEff nD τ sig (Elt F) Λ₀ .tc) β}
    {A B : sProp 𝕄} {Q : β → sProp 𝕄} (h : A ⊢ WP c p fun _ => B) : A ⊢ iprop((B -∗ WP c (k ⟨⟩) Q) -∗ WP c (p >>= k) Q) := by
  unfold WP at *
  rw [wp_bind]
  iintro HA Hk
  iapply (wp_mono frame (wpE (defs₀ (F := F)) 𝒱₀ (c : Thread nD τ) none) Set.univ
    (Q := fun _ => iprop(B ∗ (B -∗ wp frame (wpE (defs₀ (F := F)) 𝒱₀ (c : Thread nD τ) none) Set.univ (k ⟨⟩) Q))) fun _ => by
      iintro ⟨HB, Hk⟩; iapply Hk; iexact HB)
  iapply (wp_frame_r frame (wpE (defs₀ (F := F)) 𝒱₀ (c : Thread nD τ) none) Set.univ)
  isplitl [HA]
  · iapply h; iexact HA
  · iexact Hk

theorem wp_end (c : Dev nD) {p : Prog (TpuEff nD τ sig (Elt F) Λ₀ .tc) PUnit} {A B : sProp 𝕄} {Q : PUnit → sProp 𝕄}
    (h : A ⊢ WP c p fun _ => B) : A ⊢ iprop((B -∗ |={Set.univ}[frame]=> Q ⟨⟩) -∗ WP c p Q) := by
  unfold WP at *
  iintro HA Hk
  iapply (wp_fupd frame (wpE (defs₀ (F := F)) 𝒱₀ (c : Thread nD τ) none) Set.univ)
  iapply (wp_mono frame (wpE (defs₀ (F := F)) 𝒱₀ (c : Thread nD τ) none) Set.univ
    (Q := fun _ => iprop(B ∗ (B -∗ |={Set.univ}[frame]=> Q ⟨⟩))) fun _ => by
      iintro ⟨HB, Hk⟩; iapply Hk; iexact HB)
  iapply (wp_frame_r frame (wpE (defs₀ (F := F)) 𝒱₀ (c : Thread nD τ) none) Set.univ)
  isplitl [HA]
  · iapply h; iexact HA
  · iexact Hk

/-! ## Cutting and joining -/

section Pieces
variable (c : Dev nD)

omit [FloatOps F] in
theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl

omit [FloatOps F] in
/-- A family over the transfer cells: the four at offset 0, which no one uses, and the others by kind. -/
theorem cells_split (Ψ : Fin 4 → Fin 16 → sProp 𝕄) :
    (bigSep Finset.univ fun ko : Fin 4 × Fin 16 => Ψ ko.1 ko.2)
      = iprop((bigSep Finset.univ fun k : Fin 4 => Ψ k 0)
        ∗ (bigSep Finset.univ fun r : Fin 15 => Ψ 0 r.succ) ∗ (bigSep Finset.univ fun r : Fin 15 => Ψ 1 r.succ)
        ∗ (bigSep Finset.univ fun r : Fin 15 => Ψ 2 r.succ) ∗ (bigSep Finset.univ fun r : Fin 15 => Ψ 3 r.succ)) := by
  rw [bigSep_univ_prod, ← bigSep_four fun k => bigSep Finset.univ fun r : Fin 15 => Ψ k r.succ, ← bigSep_sep']
  exact bigSep_congr fun k _ => bigSep_first fun o => Ψ k o

/-- The product, by the device whose columns they are, this device's first. -/
theorem y_pieces : (((c : Thread nD τ).loc cc0_scratch0) ↦{fullShare} yT X W c : sProp 𝕄)
    = iprop(yPts X W c c ∗ bigSep Finset.univ fun r : Fin 15 => yPts X W c (fwd c r.succ)) := by
  rw [Ring.pointsTo_blocks (ℓ := (c : Thread nD τ).loc cc0_scratch0) ySet ySet_disjoint ySet_cover (yT X W c),
    bigSep_univ_equiv (around c), bigSep_first]
  show iprop(yPts X W c (fwd c 0) ∗ bigSep Finset.univ fun r : Fin 15 => yPts X W c (fwd c r.succ)) = _
  rw [fwd_zero]

omit [FloatOps F] in
theorem o_pieces (f : (cc0_stg2_0 : Ref sig .tc).ty.Contents (Elt F)) : (((c : Thread nD τ).loc cc0_stg2_0) ↦{fullShare} f : sProp 𝕄)
    = iprop(oPts c c f ∗ bigSep Finset.univ fun r : Fin 15 => oPts c (bwd c r.succ) f) := by
  rw [Ring.pointsTo_blocks (ℓ := (c : Thread nD τ).loc cc0_stg2_0) oSet oSet_disjoint oSet_cover f,
    bigSep_univ_equiv (aback c), bigSep_first]
  show iprop(oPts c (bwd c 0) f ∗ bigSep Finset.univ fun r : Fin 15 => oPts c (bwd c r.succ) f) = _
  rw [bwd_zero]

omit [FloatOps F] in
theorem a_pieces (f : (cc0_scratch1 : Ref sig .tc).ty.Contents (Elt F)) : (((c : Thread nD τ).loc cc0_scratch1) ↦{fullShare} f : sProp 𝕄)
    = iprop(aPts c 0 fullShare f ∗ bigSep Finset.univ fun r : Fin 15 => aPts c r.succ fullShare f) := by
  rw [Ring.pointsTo_blocks (ℓ := (c : Thread nD τ).loc cc0_scratch1) aSet aSet_disjoint aSet_cover f, bigSep_first]
  rfl

omit [FloatOps F] in
theorem c_pieces (f : (cc0_scratch2 : Ref sig .tc).ty.Contents (Elt F)) : (((c : Thread nD τ).loc cc0_scratch2) ↦{fullShare} f : sProp 𝕄)
    = iprop(cPts c 0 f ∗ bigSep Finset.univ fun r : Fin 15 => cPts c r.succ f) := by
  rw [Ring.pointsTo_blocks (ℓ := (c : Thread nD τ).loc cc0_scratch2) cSet cSet_disjoint cSet_cover f, bigSep_first]
  rfl

omit [FloatOps F] in
/-- Slot 0, which nothing lands in, and the slots landed in are the buffer again. -/
theorem c_join (f g : (cc0_scratch2 : Ref sig .tc).ty.Contents (Elt F)) :
    iprop(cPts c 0 f ∗ bigSep Finset.univ fun r : Fin 15 => cPts c r.succ g)
      ⊢ (iprop(∃ h, ((c : Thread nD τ).loc cc0_scratch2) ↦{fullShare} h) : sProp 𝕄) := by
  have key : iprop(cPts c 0 f ∗ bigSep Finset.univ fun r : Fin 15 => cPts c r.succ g)
      ⊢ (bigSep Finset.univ fun o : Fin 16 => iprop(∃ h, ((c : Thread nD τ).loc cc0_scratch2) ↦[cSet o]{fullShare} h) : sProp 𝕄) := by
    have slots : (bigSep Finset.univ fun r : Fin 15 => (cPts c r.succ g : sProp 𝕄))
        ⊢ bigSep Finset.univ fun r : Fin 15 => iprop(∃ h, ((c : Thread nD τ).loc cc0_scratch2) ↦[cSet r.succ]{fullShare} h) :=
      bigSep_mono fun r _ => show (cPts c r.succ g : sProp 𝕄) ⊢ _ by
        unfold cPts; iintro H; iexists g; iexact H
    rw [bigSep_first fun o : Fin 16 => (iprop(∃ h, ((c : Thread nD τ).loc cc0_scratch2) ↦[cSet o]{fullShare} h) : sProp 𝕄)]
    iintro ⟨H0, H⟩
    isplitl [H0]
    · iexists f; unfold cPts; iexact H0
    · iapply slots; iexact H
  exact key.trans (Ring.pointsTo_blocks_join_exists (ℓ := (c : Thread nD τ).loc cc0_scratch2) cSet cSet_disjoint cSet_cover g)

omit [FloatOps F] in
theorem rows_any (f : (cc0_stg2_0 : Ref sig .tc).ty.Contents (Elt F)) :
    (bigSep Finset.univ fun r : Fin 15 => (oPts c (bwd c r.succ) f : sProp 𝕄)) ⊢ bigSep Finset.univ fun r : Fin 15 => iprop(∃ f, oPts c (bwd c r.succ) f) :=
  bigSep_mono fun r _ => show (oPts c (bwd c r.succ) f : sProp 𝕄) ⊢ _ by iintro H; iexists f; iexact H

omit [FloatOps F] in
/-- Row 0, read by fifteen transfers at once: one share stays. -/
theorem row_shares (f : (cc0_scratch1 : Ref sig .tc).ty.Contents (Elt F)) : (aPts c 0 fullShare f : sProp 𝕄)
    = iprop(aPts c 0 (leaf 4 fullShare (0 : Fin 16)) f ∗ bigSep Finset.univ fun r : Fin 15 => aPts c 0 (leaf 4 fullShare r.succ) f) := by
  unfold aPts
  rw [ShareLeaves.pointsTo_leaves (ℓ := (c : Thread nD τ).loc cc0_scratch1) (aSet 0) f 4 fullShare]
  exact bigSep_first (n := 15) fun o : Fin 16 => (((c : Thread nD τ).loc cc0_scratch1) ↦[aSet 0]{leaf 4 fullShare o} f : sProp 𝕄)

/-- The room for what the other devices send, taken from both landing buffers. -/
theorem room (f : (cc0_scratch1 : Ref sig .tc).ty.Contents (Elt F)) (g : (cc0_scratch2 : Ref sig .tc).ty.Contents (Elt F)) :
    iprop(recs X W K ∗ (bigSep Finset.univ fun r : Fin 15 => aPts c r.succ fullShare f) ∗ (bigSep Finset.univ fun r : Fin 15 => cPts c r.succ g))
      ⊢ (bigSep Finset.univ fun r : Fin 15 => land c r.rev : sProp 𝕄) := by
  rw [← bigSep_sep', show (bigSep Finset.univ fun r : Fin 15 => (land c r.rev : sProp 𝕄)) = bigSep Finset.univ fun r : Fin 15 => land c r from
    (bigSep_univ_equiv (Fin.revPerm (n := 15)) fun r => land c r).symm]
  refine bigSep_with_persistent fun r _ => ?_
  unfold land
  iintro ⟨#HK, Ha, Hc⟩
  isplitl [Hc]; · iexists g; iexact Hc
  isplitl [Ha]; · iexists f; iexact Ha
  isplitr
  · iapply (reached_at X W K (c, .inr (1, r.succ))); iexact HK
  · iapply (reached_at X W K (c, .inr (3, r.succ))); iexact HK

/-- The cells at offset 0 close: nothing was ever due there. -/
theorem close_unused :
    iprop(recs X W K ∗ bigSep Finset.univ fun k : Fin 4 => atPos ER (xCell c k 0) 0 ∅ 0)
      ⊢ iprop(|={Set.univ}[frame]=> bigSep Finset.univ fun k : Fin 4 => (semVal (xCell c k 0) 0 : sProp 𝕄)) := by
  refine BI.Entails.trans (bigSep_with_persistent fun k _ => ?_) (bigSep_fupd _ _)
  iintro ⟨#HK, Hat⟩
  ihave #HI := (inv_at X W K (c, .inr (k, 0))) $$ HK
  iapply (Rounds.cell_close ER (Rd X W) (Set.mem_univ (K (c, .inr (k, 0)))) (fun h => h) (R := 0) (fun n _ => by
    rcases Nat.eq_zero_or_pos n with rfl | hn
    · exact duties_x0 X W c k
    · exact duties_later X W _ n hn))
  isplitr; · iexact HI
  iexact Hat

end Pieces

/-! ## What the body starts from and what it leaves -/

/-- The protocol's part of device `c`: the records; its positions; the tokens of the duties it will pay. -/
def ghost (c : Dev nD) : sProp 𝕄 :=
  iprop(recs X W K ∗ atPos ER (barCell c) 0 ∅ 0 ∗ (bigSep Finset.univ fun ko : Fin 4 × Fin 16 => atPos ER (xCell c ko.1 ko.2) 0 ∅ 0)
    ∗ (bigSep Finset.univ fun r : Fin 15 => dutyTok ER (barCell (fwd c r.succ)) 0 r)
    ∗ (bigSep Finset.univ fun r : Fin 15 => iprop(dutyTok ER (xCell c 0 r.succ) 0 0 ∗ dutyTok ER (xCell (fwd c r.succ) 1 r.succ) 0 0))
    ∗ (bigSep Finset.univ fun r : Fin 15 => iprop(dutyTok ER (xCell c 2 r.succ) 0 0 ∗ dutyTok ER (xCell (fwd c r.succ) 3 r.succ) 0 0)))

/-- What other devices owe `c`. -/
def due (c : Dev nD) : sProp 𝕄 :=
  iprop(cred (tallyAt (barCell c) () 15) ∗ (bigSep Finset.univ fun r : Fin 15 => cred (tallyAt (xCell c 1 r.succ) () Nd))
    ∗ (bigSep Finset.univ fun r : Fin 15 => cred (tallyAt (xCell c 3 r.succ) () Na)))

def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

/-- Every cell of `c`, closed. -/
def zeros (c : Dev nD) : sProp 𝕄 :=
  iprop((bigSep Finset.univ fun ko : Fin 4 × Fin 16 => semVal (xCell c ko.1 ko.2) 0) ∗ semVal (barCell c) 0)

theorem toSend_all (c : Dev nD) :
    iprop((bigSep Finset.univ fun r : Fin 15 => yPts X W c (fwd c r.succ)) ∗ (bigSep Finset.univ fun r : Fin 15 => aPts c 0 (leaf 4 fullShare r.succ) (aT X W c))
        ∗ (bigSep Finset.univ fun r : Fin 15 => land (fwd c r.succ) r)
        ∗ (bigSep Finset.univ fun r : Fin 15 => iprop(dutyTok ER (xCell c 0 r.succ) 0 0 ∗ dutyTok ER (xCell (fwd c r.succ) 1 r.succ) 0 0))
        ∗ (bigSep Finset.univ fun r : Fin 15 => iprop(dutyTok ER (xCell c 2 r.succ) 0 0 ∗ dutyTok ER (xCell (fwd c r.succ) 3 r.succ) 0 0)))
      = bigSep Finset.univ fun r : Fin 15 => toSend X W c r := by
  unfold toSend
  rw [bigSep_sep' (Φ := fun r : Fin 15 => yPts X W c (fwd c r.succ)), bigSep_sep' (Φ := fun r : Fin 15 => aPts c 0 (leaf 4 fullShare r.succ) (aT X W c)),
    bigSep_sep' (Φ := fun r : Fin 15 => land (fwd c r.succ) r),
    bigSep_sep' (Φ := fun r : Fin 15 => iprop(dutyTok ER (xCell c 0 r.succ) 0 0 ∗ dutyTok ER (xCell (fwd c r.succ) 1 r.succ) 0 0))]

theorem toWait_all (c : Dev nD) (k : Fin 4) (n : ℕ) (h : credOf k.val = n) :
    iprop((bigSep Finset.univ fun r : Fin 15 => cred (tallyAt (xCell c k r.succ) () n)) ∗ (bigSep Finset.univ fun r : Fin 15 => atPos ER (xCell c k r.succ) 0 ∅ 0))
      = (bigSep Finset.univ fun r : Fin 15 => toWait c k r : sProp 𝕄) := by
  subst h
  rw [← bigSep_sep']
  rfl

theorem waited_all (c : Dev nD) (k : Fin 4) :
    (bigSep Finset.univ fun r : Fin 15 => waited X W c k r)
      = iprop((bigSep Finset.univ fun r : Fin 15 => xPay X W c k.val r.succ) ∗ (bigSep Finset.univ fun r : Fin 15 => semVal (xCell c k r.succ) 0)) := by
  rw [← bigSep_sep']
  rfl

set_option maxHeartbeats 1600000 in
/-- The body on device `c`. -/
theorem sound (c : Dev nD) (Q : PUnit → sProp 𝕄) :
    iprop((ghost X W K c ∗ due c ∗ levAts L lv ∗ scratch c) ∗ (∃ Wt, owes (c : Thread nD τ) (O₀ c) Wt)
        ∗ (((c : Thread nD τ).loc cc0_stg0_0) ↦{fullShare} X c) ∗ (((c : Thread nD τ).loc cc0_stg1_0) ↦{fullShare} W c)
        ∗ (∃ f, ((c : Thread nD τ).loc cc0_stg2_0) ↦{fullShare} f))
      ⊢ iprop(((scratch c ∗ zeros c ∗ (∃ Wt, owes (c : Thread nD τ) 0 Wt)
          ∗ (((c : Thread nD τ).loc cc0_stg0_0) ↦{fullShare} X c) ∗ (((c : Thread nD τ).loc cc0_stg1_0) ↦{fullShare} W c)
          ∗ (((c : Thread nD τ).loc cc0_stg2_0) ↦{fullShare} resT X W c)) -∗ Q ⟨⟩) -∗ WP c (looped c) Q) := by
  unfold ghost due scratch looped
  rw [cells_split fun k o => atPos ER (xCell c k o) 0 ∅ 0]
  iintro ⟨⟨⟨#HK, HatB, ⟨Hat0, Hp0, Hp1, Hp2, Hp3⟩, HtB, Ht01, Ht23⟩, ⟨HcB, Hc1, Hc3⟩, #Hlev, ⟨Hy, ⟨%fa, Ha⟩, ⟨%fc, Hc⟩⟩⟩, ⟨%Wt, HO⟩, Hx, Hw, ⟨%fo, Ho⟩⟩ Hk
  -- the signals, each with the room for what comes back
  ihave Ha := (Entails.of_eq (a_pieces c fa)) $$ Ha
  icases Ha with ⟨Ha0, Ha⟩
  ihave Hc := (Entails.of_eq (c_pieces c fc)) $$ Hc
  icases Hc with ⟨Hc0, Hc⟩
  ihave Hroom := (room X W K c fa fc) $$ [Ha Hc]
  · isplitr; · iexact HK
    isplitl [Ha] <;> iassumption
  iapply (wp_then c (wp_loop c 15 (sigStep c) (fun k => keep X W K c (owing (sendOwe c) 0 + owing (sigOwe c) k))
    (fun r => iprop(dutyTok ER (barCell (fwd c r.succ)) 0 r ∗ land c r.rev)) (fun _ => iprop(emp)) (sig_step X W K c))) $$ [HO HtB Hroom]
  · isplitl [HO]
    · unfold keep
      isplitr; · iexact HK
      iexists Wt; iexact HO
    · rw [bigSep_sep']
      isplitl [HtB] <;> iassumption
  iintro ⟨HT, -⟩
  -- the wait at the barrier
  rw [owing_end, add_zero]
  iapply (wp_then c (wait_step X W K c)) $$ [HT HcB HatB]
  · isplitl [HT]; · iexact HT
    isplitl [HcB]; · iexact HcB
    isplitl [HatB]; · iexact HatB
    iexact Hlev
  iintro ⟨HT, Hland, HzB⟩
  -- the product
  iapply (wp_then c (mat_step X W c)) $$ [Hx Hw Hy Ha0]
  · isplitl [Hx]; · iexact Hx
    isplitl [Hw]; · iexact Hw
    isplitl [Hy]; · iexact Hy
    iexists fa; iexact Ha0
  iintro ⟨Hx, Hw, Hy, Ha0⟩
  ihave Hy := (Entails.of_eq (y_pieces X W c)) $$ Hy
  icases Hy with ⟨Hyc, Hy⟩
  ihave Ha0 := (Entails.of_eq (row_shares c (aT X W c))) $$ Ha0
  icases Ha0 with ⟨Ha00, Ha0⟩
  -- the transfers
  iapply (wp_then c (wp_loop c 15 (sendStep c) (fun k => keep X W K c (owing (sendOwe c) k)) (toSend X W c)
    (fun r => iprop(cred (tallyAt (xCell c 0 r.succ) () Nd) ∗ cred (tallyAt (xCell c 2 r.succ) () Na))) (send_step X W K c))) $$ [HT Hy Ha0 Hland Ht01 Ht23]
  · isplitl [HT]; · iexact HT
    iapply (Entails.of_eq (toSend_all X W c))
    isplitl [Hy]; · iexact Hy
    isplitl [Ha0]; · iexact Ha0
    isplitl [Hland]; · iexact Hland
    isplitl [Ht01] <;> iassumption
  rw [owing_end, bigSep_sep']
  iintro ⟨HT, Hs0, Hs2⟩
  -- the block kept
  ihave Ho := (Entails.of_eq (o_pieces c fo)) $$ Ho
  icases Ho with ⟨Hoc, Ho⟩
  iapply (wp_then c (keep_step X W c)) $$ [Hyc Hoc]
  · isplitl [Hyc]; · iexact Hyc
    iexists fo; iexact Hoc
  iintro ⟨Hyc, Hoc⟩
  -- the blocks received
  iapply (wp_then c (wp_loop c 15 (recvStep c) (fun _ => keep X W K c 0)
    (fun r => iprop(toWait c 0 r ∗ toWait c 1 r ∗ ∃ f, oPts c (bwd c r.succ) f))
    (fun r => iprop(waited X W c 0 r ∗ waited X W c 1 r ∗ oPts c (bwd c r.succ) (oT X W c))) (recv_step X W K c))) $$ [HT Hs0 Hp0 Hc1 Hp1 Ho]
  · isplitl [HT]; · iexact HT
    rw [bigSep_sep', bigSep_sep', ← toWait_all c 0 Nd (credOf_data _ (by decide)), ← toWait_all c 1 Nd (credOf_data _ (by decide))]
    isplitl [Hs0 Hp0]
    · isplitl [Hs0] <;> iassumption
    isplitl [Hc1 Hp1]
    · isplitl [Hc1] <;> iassumption
    iapply (rows_any c fo)
    iexact Ho
  rw [bigSep_sep', bigSep_sep', waited_all, waited_all]
  iintro ⟨HT, ⟨Hy, Hz0⟩, ⟨Hc, Hz1⟩, Ho⟩
  ihave Hy := (Entails.of_eq (show (bigSep Finset.univ fun r : Fin 15 => xPay X W c (0 : Fin 4).val r.succ)
    = bigSep Finset.univ fun r : Fin 15 => yPts X W c (fwd c r.succ) from rfl)) $$ Hy
  ihave Hc := (Entails.of_eq (show (bigSep Finset.univ fun r : Fin 15 => xPay X W c (1 : Fin 4).val r.succ)
    = bigSep Finset.univ fun r : Fin 15 => cPts c r.succ (cT X W c) from rfl)) $$ Hc
  -- the maxima received
  iapply (wp_then c (wp_loop c 15 amaxStep (fun _ => keep X W K c 0) (fun r => iprop(toWait c 2 r ∗ toWait c 3 r))
    (fun r => iprop(waited X W c 2 r ∗ waited X W c 3 r)) (amax_step X W K c))) $$ [HT Hs2 Hp2 Hc3 Hp3]
  · isplitl [HT]; · iexact HT
    rw [bigSep_sep', ← toWait_all c 2 Na (credOf_amax _ (by decide)), ← toWait_all c 3 Na (credOf_amax _ (by decide))]
    isplitl [Hs2 Hp2]
    · isplitl [Hs2] <;> iassumption
    isplitl [Hc3] <;> iassumption
  rw [bigSep_sep', waited_all, waited_all]
  iintro ⟨HT, ⟨Ha0, Hz2⟩, Ha, Hz3⟩
  ihave Ha0 := (Entails.of_eq (show (bigSep Finset.univ fun r : Fin 15 => xPay X W c (2 : Fin 4).val r.succ)
    = bigSep Finset.univ fun r : Fin 15 => aPts c 0 (leaf 4 fullShare r.succ) (aT X W c) from rfl)) $$ Ha0
  ihave Ha := (Entails.of_eq (show (bigSep Finset.univ fun r : Fin 15 => xPay X W c (3 : Fin 4).val r.succ)
    = bigSep Finset.univ fun r : Fin 15 => aPts c r.succ fullShare (aT X W c) from rfl)) $$ Ha
  -- the pieces are whole again
  ihave Ha0 := (Entails.of_eq (row_shares c (aT X W c)).symm) $$ [Ha00 Ha0]
  · isplitl [Ha00] <;> iassumption
  ihave Ha := (Entails.of_eq (a_pieces c (aT X W c)).symm) $$ [Ha0 Ha]
  · isplitl [Ha0] <;> iassumption
  ihave Ho := (Entails.of_eq (o_pieces c (oT X W c)).symm) $$ [Hoc Ho]
  · isplitl [Hoc] <;> iassumption
  iapply (wp_end c (quant_step X W c)) $$ [Ha Ho]
  · isplitl [Ha] <;> iassumption
  iintro ⟨Ha, Ho⟩
  imod (close_unused X W K c) $$ [Hat0] with Hz
  · isplitr; · iexact HK
    iexact Hat0
  imodintro
  iapply Hk
  isplitl [Hy Hyc Ha Hc0 Hc]
  · isplitl [Hy Hyc]
    · iexists (yT X W c)
      iapply (Entails.of_eq (y_pieces X W c).symm)
      isplitl [Hyc] <;> iassumption
    isplitl [Ha]
    · iexists (aT X W c); iexact Ha
    · iapply (c_join c fc (cT X W c))
      isplitl [Hc0] <;> iassumption
  isplitl [Hz Hz0 Hz1 Hz2 Hz3 HzB]
  · unfold zeros
    rw [cells_split fun k o => (semVal (xCell c k o) 0 : sProp 𝕄)]
    isplitr [HzB]
    · isplitl [Hz]; · iexact Hz
      isplitl [Hz0]; · iexact Hz0
      isplitl [Hz1]; · iexact Hz1
      isplitl [Hz2] <;> iassumption
    · iexact HzB
  isplitl [HT]
  · unfold keep
    icases HT with ⟨-, HO⟩
    iexact HO
  isplitl [Hx]; · iexact Hx
  isplitl [Hw] <;> iassumption

end Cert.KProof

end
-- ==== Proof.Run.lean ====
/-
The launch: the cells and their tokens dealt out, the credits counted, and the run of the sixteen devices.
-/
module

public import proofs.«01_k».proof.Proof.Body
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- Every device's rows of `x`, and its `w`. -/
def xs (c : Dev nD) : Vec F S256x4096 .f32 := (win0_0.blk (0 : Fin 1)).view.read (Elt F) (m ((c : Thread nD τ).loc main_arg0))
def ws (c : Dev nD) : Vec F S4096x2048 .f32 := (win0_1.blk (0 : Fin 1)).view.read (Elt F) (m ((c : Thread nD τ).loc main_arg1))

/-! ## The point's proof data -/

/-- What device `c`'s body starts from, the scratch buffers aside. -/
def start (c : Dev nD) : sProp 𝕄 := iprop((∃ K, ghost (xs m) (ws m) K c) ∗ due c ∗ levAts L lv)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => ws m c
    | ⟨2, _⟩ => resT (xs m) (ws m) c
  Φ t := match t with
    | ⟨0, _⟩ => iprop(start m c ∗ scratch c)
    | ⟨_ + 1, _⟩ => iprop(scratch c ∗ zeros c)
  q _ := fullShare
  owed t := match t with
    | ⟨0, _⟩ => O₀ c
    | ⟨_ + 1, _⟩ => 0

abbrev pt : Fin cfg0.N := t0_0

omit [FloatOps F] in
theorem owns_whole (c : Dev nD) (b : Ref sig .tc) (f₀ : b.ty.Contents (Elt F)) :
    (owns (Ix := Unit) (Name := ℕ) (U := UU) (Lvl := ℕ) (c : Thread nD τ) (Memref.whole b) fullShare f₀ : sProp 𝕄)
      = iprop(∃ f : Buf (Elt F) (((c : Dev nD) : Thread nD τ).loc b), ⌜f = f₀⌝ ∗ (((c : Thread nD τ).loc b) ↦{fullShare} f)) := by
  unfold owns; simp only [Memref.view_whole, View.read_whole, View.set_whole]

/-- A staging buffer at given contents. -/
abbrev held (c : Dev nD) (b : Ref sig .tc) (f₀ : b.ty.Contents (Elt F)) : sProp 𝕄 :=
  iprop(∃ f : Buf (Elt F) (((c : Dev nD) : Thread nD τ).loc b), ⌜f = f₀⌝ ∗ (((c : Thread nD τ).loc b) ↦{fullShare} f))

theorem fetched_0 (t : Fin cfg0.N) : (cfg0.win (0 : Fin 3)).fetch t = true := by rw [fin_N0 t]; rfl
theorem fetched_1 (t : Fin cfg0.N) : (cfg0.win (1 : Fin 3)).fetch t = true := by rw [fin_N0 t]; rfl

set_option maxRecDepth 4000 in
def before (c : Dev nD) : sProp 𝕄 :=
  iprop((start m c ∗ scratch c) ∗ (dats m ρ 0 c).owesAt () pt.castSucc
    ∗ (∃ d, held c cc0_stg0_0 ((dats m ρ 0 c).before (0 : Fin 3) pt d))
    ∗ (∃ d, held c cc0_stg1_0 ((dats m ρ 0 c).before (1 : Fin 3) pt d))
    ∗ (∃ d, held c cc0_stg2_0 ((dats m ρ 0 c).before (2 : Fin 3) pt d)))

set_option maxRecDepth 4000 in
def after (c : Dev nD) : sProp 𝕄 :=
  iprop((scratch c ∗ zeros c) ∗ (dats m ρ 0 c).owesAt () pt.succ
    ∗ held c cc0_stg0_0 (xs m c) ∗ held c cc0_stg1_0 (ws m c) ∗ held c cc0_stg2_0 (resT (xs m) (ws m) c))

set_option maxRecDepth 4000 in
theorem body_at (c : Dev nD) :
    before m ρ c ⊢ wp frame (wpE (defs₀ (F := F)) 𝒱₀ (c : Thread nD τ) none) Set.univ (printedBody (F := F)) (fun _ => after m ρ c) := by
  rw [body_eq]
  simp only [Prog.lift, Prog.bind_op, Prog.bind_ret, wp_deviceId]
  unfold before start
  iintro ⟨⟨⟨⟨%K, Hg⟩, Hd, #Hlev⟩, Hs⟩, Ho, ⟨%d0, %g0, %hg0, Hx⟩, ⟨%d1, %g1, %hg1, Hw⟩, ⟨%d2, %g2, %hg2, Hout⟩⟩
  have hx : g0 = xs m c := by rw [hg0]; unfold Dat.before; rw [if_pos (fetched_0 pt)]; rfl
  have hw : g1 = ws m c := by rw [hg1]; unfold Dat.before; rw [if_pos (fetched_1 pt)]; rfl
  subst hx hw
  unfold Dat.owesAt Pipeline.owesWithin
  icases Ho with ⟨%Wt, %hW, HO⟩
  rw [show (dats m ρ 0 c).owed pt.castSucc = O₀ c from rfl]
  iapply (sound (xs m) (ws m) K c fun _ => after m ρ c) $$ [Hg Hd Hs HO Hx Hw Hout]
  · isplitl [Hg Hd Hs]
    · isplitl [Hg]; · iexact Hg
      isplitl [Hd]; · iexact Hd
      isplitr; · iexact Hlev
      iexact Hs
    isplitl [HO]; · iexists Wt; iexact HO
    isplitl [Hx]; · iexact Hx
    isplitl [Hw]; · iexact Hw
    iexists g2; iexact Hout
  iintro ⟨Hs, Hz, ⟨%Wt', HO⟩, Hx, Hw, Hout⟩
  unfold after Dat.owesAt Pipeline.owesWithin
  rw [show (dats m ρ 0 c).owed pt.succ = 0 from rfl]
  isplitl [Hs Hz]
  · isplitl [Hs] <;> iassumption
  isplitl [HO]
  · iexists Wt'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 20000 in
theorem obligation (c : Dev nD) : BodyObligation (dats (F := F) m ρ 0 c) (defs₀ (F := F)) 𝒱₀ () Set.univ := fun t => by
  rw [fin_N0 t]
  rw [show (Finset.univ : Finset (Fin cfg0.W)) = (Finset.univ : Finset (Fin 3)) from rfl, bigSep_W0, bigSep_W0]
  simp only [owns_whole]
  exact body_at m ρ c

/-! ## The cells and the tokens -/

/-- The kernel's own semaphores. -/
abbrev osem : Fin 4 × Fin 16 → SemLoc sig := fun ko => .dma (xS ko.1 ko.2)

theorem xS_inj {k k' : Fin 4} {o o' : Fin 16} (h : xS k o = xS k' o') : k = k' ∧ o = o' := by
  have e : (xS k o).val = (xS k' o').val := by rw [h]
  rw [xS_val, xS_val] at e
  exact ⟨Fin.ext (by omega), Fin.ext (by omega)⟩
theorem xCell_inj {c c' : Dev nD} {k k' : Fin 4} {o o' : Fin 16} (h : xCell c k o = xCell c' k' o') : c = c' ∧ k = k' ∧ o = o' :=
  ⟨congrArg (fun g : GSem nD τ sig => g.1.1) h, xS_inj (SemLoc.dma.inj (congrArg Prod.snd h))⟩

theorem ownSemFacts : Pipeline.OwnSemFacts cfg0.spec osem where
  isScoped := by decide +kernel
  inj := fun a b h => Prod.ext (xS_inj (SemLoc.dma.inj h)).1 (xS_inj (SemLoc.dma.inj h)).2
  disj := by decide +kernel

theorem share_eq (c : Dev nD) (w : Fin cfg0.W) : (dats m ρ 0 c).share w = fullShare := by unfold Dat.share; split <;> rfl

theorem kcell_injective : Function.Injective (kcell : Dev nD × Cix → GSem nD τ sig) := by
  rintro ⟨c, j⟩ ⟨c', j'⟩ h
  have h1 : c = c' := congrArg (fun g : GSem nD τ sig => g.1.1) h
  have h2 : csem j = csem j' := congrArg Prod.snd h
  subst h1
  rcases j with _ | ⟨k, o⟩ <;> rcases j' with _ | ⟨k', o'⟩
  · rfl
  · cases h2
  · cases h2
  · obtain ⟨rfl, rfl⟩ := xS_inj (SemLoc.dma.inj h2); rfl
def allCells : Finset (GSem nD τ sig) := Finset.univ.map ⟨kcell, kcell_injective⟩

/-- A device's own duties: its barrier's fifteen, and one at each transfer cell in use. -/
abbrev Tix : Type := Fin 15 ⊕ (Fin 4 × Fin 15)
abbrev tokOf (cj : Dev nD × Tix) : GSem nD τ sig × ℕ × Fin 15 := match cj.2 with
  | .inl r => (barCell cj.1, 0, r)
  | .inr kr => (xCell cj.1 kr.1 kr.2.succ, 0, 0)
theorem tokOf_injective : Function.Injective (tokOf : Dev nD × Tix → GSem nD τ sig × ℕ × Fin 15) := by
  rintro ⟨c, j⟩ ⟨c', j'⟩ h
  rcases j with r | ⟨k, r⟩ <;> rcases j' with r' | ⟨k', r'⟩
  · have h1 : c = c' := congrArg (fun x : GSem nD τ sig × ℕ × Fin 15 => x.1.1.1) h
    have h2 : r = r' := congrArg (fun x : GSem nD τ sig × ℕ × Fin 15 => x.2.2) h
    rw [h1, h2]
  · exact absurd (congrArg (fun x : GSem nD τ sig × ℕ × Fin 15 => x.1.2) h) (fun h' => by cases h')
  · exact absurd (congrArg (fun x : GSem nD τ sig × ℕ × Fin 15 => x.1.2) h) (fun h' => by cases h')
  · obtain ⟨h1, h2, h3⟩ := xCell_inj (show xCell c k r.succ = xCell c' k' r'.succ from congrArg Prod.fst h)
    rw [h1, h2, Fin.succ_injective _ h3]
def allToks : Finset (GSem nD τ sig × ℕ × Fin 15) := Finset.univ.map ⟨tokOf, tokOf_injective⟩

def u₀ : UU := (initOf (Pipeline.cells cfgs cellOf_inj) (Pipeline.launchToks cfgs cellOf_inj), initOf allCells allToks)

/-- The tokens of `c`'s own cells, and those `c` pays with. -/
def ownToks (c : Dev nD) : sProp 𝕄 := bigSep Finset.univ fun j : Tix => dutyTok ER (tokOf (c, j)).1 (tokOf (c, j)).2.1 (tokOf (c, j)).2.2
def payToks (c : Dev nD) : sProp 𝕄 :=
  iprop((bigSep Finset.univ fun r : Fin 15 => dutyTok ER (barCell (fwd c r.succ)) 0 r)
    ∗ (bigSep Finset.univ fun r : Fin 15 => iprop(dutyTok ER (xCell c 0 r.succ) 0 0 ∗ dutyTok ER (xCell (fwd c r.succ) 1 r.succ) 0 0))
    ∗ (bigSep Finset.univ fun r : Fin 15 => iprop(dutyTok ER (xCell c 2 r.succ) 0 0 ∗ dutyTok ER (xCell (fwd c r.succ) 3 r.succ) 0 0)))

/-- What the launch deals device `c`. -/
def G (c : Dev nD) : sProp 𝕄 :=
  iprop((bigSep Finset.univ fun j : Cix => roundState ER (Rd (xs m) (ws m)) (kcell (c, j)) 0)
    ∗ (bigSep Finset.univ fun j : Cix => iprop(atPos ER (kcell (c, j)) 0 ∅ 0 ∗ reached ER (kcell (c, j)) 0)) ∗ ownToks c)
def G' (c : Dev nD) : sProp 𝕄 := iprop(∃ K, ghost (xs m) (ws m) K c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun j : Cix => Φ (kcell (c, j)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks ownToks; rw [bigSep_map, bigSep_univ_prod]; rfl
  iintro HX
  imod (Rounds.fund ER (Rd (xs m) (ws m)) allCells allToks) $$ HX with ⟨Hst, Hr, Hat, Htok⟩
  imodintro
  ihave Hst := (Entails.of_eq (hX fun g => roundState ER (Rd (xs m) (ws m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- The launch's one unscoped semaphore is the barrier. -/
theorem unscopedSems_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem own_eq (c : Dev nD) : (Pipeline.ownSems0 (Ix := Unit) (Name := ℕ) (U := UU) (Lvl := ℕ) (Val := Elt F) (τ := τ) osem c : sProp 𝕄)
    = bigSep Finset.univ fun ko : Fin 4 × Fin 16 => semVal (xCell c ko.1 ko.2) 0 := rfl

omit [FloatOps F] in
theorem cells_by_kind (Φ : Cix → sProp 𝕄) : bigSep Finset.univ Φ = iprop(Φ (.inl ()) ∗ bigSep Finset.univ fun ko : Fin 4 × Fin 16 => Φ (.inr ko)) := by
  rw [bigSep_univ_sum, bigSep_univ_of_subsingleton ()]
  rfl

theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Cix => iprop(∃ κ : ℕ, cellInv ER (Rd (xs m) (ws m)) κ (kcell (c, j))))
          ∗ (bigSep Finset.univ fun j : Cix => iprop(atPos ER (kcell (c, j)) 0 ∅ 0 ∗ reached ER (kcell (c, j)) 0)) ∗ ownToks c) := by
  unfold G
  rw [unscopedSems_eq]
  iintro ⟨Hos, Hus, Hst, Hat, Htok⟩
  ihave Hv := (Entails.of_eq (cells_by_kind fun j => (semVal (kcell (c, j)) 0 : sProp 𝕄)).symm) $$ [Hos Hus]
  · isplitl [Hus]; · iexact Hus
    iapply (Entails.of_eq (own_eq c)); iexact Hos
  imod (show iprop((bigSep Finset.univ fun j : Cix => semVal (kcell (c, j)) 0) ∗ bigSep Finset.univ fun j : Cix => roundState ER (Rd (xs m) (ws m)) (kcell (c, j)) 0)
      ⊢ (|={Set.univ}=> bigSep Finset.univ fun j => iprop(∃ κ : ℕ, cellInv ER (Rd (xs m) (ws m)) κ (kcell (c, j))) : sProp 𝕄) from by
        rw [← bigSep_sep']
        exact (bigSep_mono fun j _ => (Rounds.body_intro ER (Rd (xs m) (ws m)) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- What every device has for the device at each offset, dealt around. -/
theorem deal (Φ : Dev nD → Fin 15 → sProp 𝕄) :
    (bigSep Finset.univ fun c : Dev nD => bigSep Finset.univ fun r : Fin 15 => Φ c r)
      = bigSep Finset.univ fun c : Dev nD => bigSep Finset.univ fun r : Fin 15 => Φ (fwd c r.succ) r := by
  rw [bigSep_univ_comm, bigSep_univ_comm fun (c : Dev nD) (r : Fin 15) => Φ (fwd c r.succ) r]
  exact bigSep_congr fun r _ => bigSep_univ_equiv (turn r.succ) fun c => Φ c r

omit [FloatOps F] in
theorem toks_around : (bigSep Finset.univ fun c : Dev nD => (ownToks c : sProp 𝕄)) ⊢ bigSep Finset.univ fun c : Dev nD => payToks c := by
  have own (c : Dev nD) : (ownToks c : sProp 𝕄) = iprop((bigSep Finset.univ fun r : Fin 15 => dutyTok ER (barCell c) 0 r)
      ∗ (bigSep Finset.univ fun r : Fin 15 => dutyTok ER (xCell c 0 r.succ) 0 0) ∗ (bigSep Finset.univ fun r : Fin 15 => dutyTok ER (xCell c 1 r.succ) 0 0)
      ∗ (bigSep Finset.univ fun r : Fin 15 => dutyTok ER (xCell c 2 r.succ) 0 0) ∗ (bigSep Finset.univ fun r : Fin 15 => dutyTok ER (xCell c 3 r.succ) 0 0)) := by
    unfold ownToks
    rw [bigSep_univ_sum, bigSep_univ_prod, bigSep_four]
    rfl
  have pay (c : Dev nD) : (payToks c : sProp 𝕄) = iprop((bigSep Finset.univ fun r : Fin 15 => dutyTok ER (barCell (fwd c r.succ)) 0 r)
      ∗ ((bigSep Finset.univ fun r : Fin 15 => dutyTok ER (xCell c 0 r.succ) 0 0) ∗ (bigSep Finset.univ fun r : Fin 15 => dutyTok ER (xCell (fwd c r.succ) 1 r.succ) 0 0))
      ∗ (bigSep Finset.univ fun r : Fin 15 => dutyTok ER (xCell c 2 r.succ) 0 0) ∗ (bigSep Finset.univ fun r : Fin 15 => dutyTok ER (xCell (fwd c r.succ) 3 r.succ) 0 0)) := by
    unfold payToks
    rw [bigSep_sep', bigSep_sep']
  simp only [own, pay]
  simp only [bigSep_sep']
  rw [deal fun c r => dutyTok ER (barCell c) 0 r, deal fun c r => dutyTok ER (xCell c 1 r.succ) 0 0, deal fun c r => dutyTok ER (xCell c 3 r.succ) 0 0]
  iintro ⟨Hb, H0, H1, H2, H3⟩
  isplitl [Hb]; · iexact Hb
  isplitl [H0 H1]
  · isplitl [H0] <;> iassumption
  isplitl [H2] <;> iassumption

/-- What stays with device `c`: its positions, and the tokens of the duties it pays. -/
def mine (c : Dev nD) : sProp 𝕄 := iprop((bigSep Finset.univ fun j : Cix => atPos ER (kcell (c, j)) 0 ∅ 0) ∗ payToks c)

theorem ghost_of (K : Dev nD × Cix → ℕ) (c : Dev nD) : iprop(recs (xs m) (ws m) K ∗ mine c) ⊢ G' m c := by
  unfold mine payToks G' ghost
  rw [cells_by_kind fun j => (atPos ER (kcell (c, j)) 0 ∅ 0 : sProp 𝕄)]
  iintro ⟨#HR, ⟨HaB, HaX⟩, Ht⟩
  iexists K
  isplitr; · iexact HR
  isplitl [HaB]; · iexact HaB
  isplitl [HaX]; · iexact HaX
  iexact Ht

theorem regroup :
    (bigSep Finset.univ fun c : Dev nD => iprop((bigSep Finset.univ fun j : Cix => iprop(∃ κ : ℕ, cellInv ER (Rd (xs m) (ws m)) κ (kcell (c, j))))
          ∗ (bigSep Finset.univ fun j : Cix => iprop(atPos ER (kcell (c, j)) 0 ∅ 0 ∗ reached ER (kcell (c, j)) 0)) ∗ ownToks c) : sProp 𝕄)
      ⊢ bigSep Finset.univ (G' m) := by
  simp only [bigSep_sep']
  rw [← bigSep_univ_prod (fun ck : Dev nD × Cix => iprop(∃ κ : ℕ, cellInv ER (Rd (xs m) (ws m)) κ (kcell ck))),
    ← bigSep_univ_prod (fun ck : Dev nD × Cix => (reached ER (kcell ck) 0 : sProp 𝕄))]
  iintro ⟨HI, ⟨Hat, #HR⟩, Htok⟩
  ihave HK := (BI.bigSep_exists_pi Finset.univ (fun (ck : Dev nD × Cix) (κ : ℕ) => (cellInv ER (Rd (xs m) (ws m)) κ (kcell ck) : sProp 𝕄))) $$ HI
  icases HK with ⟨%K, #HI⟩
  ihave Htk := (toks_around (F := F)) $$ Htok
  iapply (show iprop(recs (xs m) (ws m) K ∗ bigSep Finset.univ fun c : Dev nD => mine c) ⊢ (bigSep Finset.univ (G' m) : sProp 𝕄) from
    (sep_mono_left (BI.bigSep_of_persistent (Finset.univ : Finset (Dev nD)) _)).trans (by rw [← bigSep_sep']; exact bigSep_mono fun c _ => ghost_of m K c))
  isplitr
  · unfold recs; rw [bigSep_sep']
    isplitl; · iexact HI
    iexact HR
  · iapply (Entails.of_eq (show _ = (bigSep Finset.univ fun c : Dev nD => mine c : sProp 𝕄) from
      (bigSep_sep' Finset.univ (fun c : Dev nD => bigSep Finset.univ fun j : Cix => (atPos ER (kcell (c, j)) 0 ∅ 0 : sProp 𝕄)) payToks).symm))
    isplitl [Hat]; · iexact Hat
    iexact Htk

/-- Every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## The launch credit -/

omit [FloatOps F] in
theorem fifteen (g : GSem nD τ sig) : (∑ _r : Fin 15, tallyAt g () 1) = (tallyAt g () 15 : CellTallies nD τ sig Unit) := by
  funext g'
  refine Finsupp.ext fun u => ?_
  rw [Finset.sum_apply, Finsupp.finset_sum_apply, Finset.sum_congr rfl fun r _ => tallyAt_apply g () 1 g' u, tallyAt_apply]
  split <;> rfl

omit [FloatOps F] in
theorem around_cred (sm : SemLoc sig) (r : Fin 15) (n : ℕ) (c : Dev nD) :
    (Pipeline.launchCred (fun d => tallyAt (((fwd d r.succ : Dev nD) : Thread nD τ), sm) () n) c : sProp 𝕄) ⊢ cred (tallyAt ((c : Thread nD τ), sm) () n) :=
  Pipeline.launchCred_tallyAt sm (fun d => fwd d r.succ) (fun d => bwd d r.succ) (fun d => fwd_bwd d _) (fun d => bwd_fwd d _) () n c

omit [FloatOps F] in
/-- Out of its launch credit a device has its barrier's fifteen units and every landing's. -/
theorem creds (c : Dev nD) : (Pipeline.launchCred O₀ c : sProp 𝕄) ⊢ due c := by
  rw [show (O₀ : Dev nD → CellTallies nD τ sig Unit) = fun d => (∑ r : Fin 15, sendOwe d r) + ∑ r : Fin 15, sigOwe d r from
      funext fun d => by unfold O₀; rw [owing_zero, owing_zero],
    Pipeline.launchCred_add, Pipeline.launchCred_sum Finset.univ (fun r d => sendOwe d r), Pipeline.launchCred_sum Finset.univ (fun r d => sigOwe d r)]
  unfold sendOwe sigOwe
  simp only [Pipeline.launchCred_add]
  rw [bigSep_sep']
  unfold due
  iintro ⟨⟨H3, H1⟩, Hb⟩
  isplitl [Hb]
  · rw [← fifteen, Pipeline.cred_finsetSum]
    iapply (show _ ⊢ (bigSep Finset.univ fun _r : Fin 15 => cred (tallyAt (barCell c) () 1) : sProp 𝕄) from bigSep_mono fun r _ => around_cred (.reg barS) r 1 c)
    iexact Hb
  isplitl [H1]
  · iapply (show _ ⊢ (bigSep Finset.univ fun r : Fin 15 => cred (tallyAt (xCell c 1 r.succ) () Nd) : sProp 𝕄) from bigSep_mono fun r _ => around_cred (.dma (xS 1 r.succ)) r Nd c)
    iexact H1
  · iapply (show _ ⊢ (bigSep Finset.univ fun r : Fin 15 => cred (tallyAt (xCell c 3 r.succ) () Na) : sProp 𝕄) from bigSep_mono fun r _ => around_cred (.dma (xS 3 r.succ)) r Na c)
    iexact H3

/-! ## The sides of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem scratch_eq (c : Dev nD) : (Pipeline.scopedRest cfg0.spec c : sProp 𝕄) = scratch c := by
  rw [scopedRest0_eq]; rfl

theorem first_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scratch_eq]
  iintro ⟨Hs, -, Hr⟩
  isplitl [Hs] <;> iassumption

theorem last_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scratch c ∗ zeros c) from rfl, scratch_eq, own_eq, unscopedSems_eq]
  unfold zeros
  iintro ⟨Hr, HzX, HzB⟩
  isplitl [HzB]; · iexact HzB
  isplitl [HzX] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

set_option maxRecDepth 20000 in
/-- From any memory with every counter at zero the sixteen devices' kernel runs to its end: the arrays hold their final
    contents and every counter is back at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KProof

end
-- ==== Proof.Frames.lean ====
/-
The frames: each program runs to its end, leaves its arguments as they were and every counter at zero.
-/
module

public import proofs.«01_k».proof.Defs
public import proofs.«01_k».proof.Proof.Run
public import proofs.«01_k».proof.Proof.Gen.Kernel
public import proofs.«01_k».proof.Proof.Gen.ReferenceIdeal.Frame

@[expose] public section

noncomputable section

namespace Cert.KProof

open Idealize.ShloMosaic
open Idealize.ShloMosaic.TcCoe
open Idealize.SL.Sem

section
open Cert.KernelIdeal Cert.KernelIdeal.Gen

variable {F : FTy → Type} [FloatOps F]

/-- An argument's array is never written. -/
theorem kept_x (m : (ℓ : Loc nD τ sig) → Buf (Elt F) ℓ) (ρ : Dev nD → PrngReg) (c : Dev nD) :
    finalA m ρ c (0 : Fin 3) = m ((c : Thread nD τ).loc main_arg0) := (dats (F := F) m ρ 0 c).arrAt_in (0 : Fin 3) rfl _
theorem kept_w (m : (ℓ : Loc nD τ sig) → Buf (Elt F) ℓ) (ρ : Dev nD → PrngReg) (c : Dev nD) :
    finalA m ρ c (1 : Fin 3) = m ((c : Thread nD τ).loc main_arg1) := (dats (F := F) m ρ 0 c).arrAt_in (1 : Fin 3) rfl _

/-- The run over any float values: the arguments as they were, the counters at zero. -/
theorem kept_run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono
    (fun _ h => ⟨fun c => ⟨(h.1 c (0 : Fin 3)).trans (kept_x m ρ c), (h.1 c (1 : Fin 3)).trans (kept_w m ρ c)⟩, h.2⟩) (run_main m ρ)

end

/-- The ideal kernel's frame. -/
theorem frame_kernelIdeal : Cert.quiescent_KernelIdeal := fun m ρ _ => kept_run (F := Ideal) m ρ

section
variable {F : FTy → Type} [FloatOps F]

/-- The two printings have the same body, -/
theorem same_body : Cert.Kernel.cc0_body (F := F) = Cert.KernelIdeal.cc0_body (F := F) := rfl

/-- so the same table, -/
theorem same_table : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem same_defs : Cert.Kernel.defs (F := F) = Cert.KernelIdeal.defs (F := F) := by
  unfold Cert.Kernel.defs Cert.KernelIdeal.defs
  exact congrArg (Pipeline.defs _) same_table

end

/-- The kernel's frame. -/
theorem frame_kernel : Cert.quiescent_Kernel := fun m ρ _ => by
  rw [same_defs]
  exact kept_run (F := Bits) m ρ

/-- The reference's frame. -/
theorem frame_referenceIdeal : Cert.quiescent_ReferenceIdeal := fun m ρ _ => Cert.ReferenceIdeal.Gen.frame m ρ

end Cert.KProof

end
-- ==== Proof.Arrays.lean ====
/-
The arrays before and after the run: each window is its whole array.
-/
module

public import proofs.«01_k».proof.Proof.Run
public import Idealize.ShloMosaic.Lib.Pipeline.Value

@[expose] public section

noncomputable section

namespace Cert.KProof

open Cert.KernelIdeal Cert.KernelIdeal.Gen
open Idealize.ShloMosaic
open Idealize.ShloMosaic.TcCoe
open Idealize.ShloMosaic.Pipeline (Dat Cfg Window)

variable {F : FTy → Type} [FloatOps F]
variable (m : (ℓ : Loc nD τ sig) → Buf (Elt F) ℓ) (ρ : Dev nD → PrngReg)

theorem blk_emb_0 (y : S256x4096.Idx) : (win0_0.blk (0 : Fin 1)).view.emb y = y :=
  funext fun a => Fin.ext (win0_0.rect_emb_val_of_index_zero (0 : Fin 1) a (by fin_cases a <;> rfl) y)
theorem blk_emb_1 (y : S4096x2048.Idx) : (win0_1.blk (0 : Fin 1)).view.emb y = y :=
  funext fun a => Fin.ext (win0_1.rect_emb_val_of_index_zero (0 : Fin 1) a (by fin_cases a <;> rfl) y)
theorem blk_emb_2 (y : S4096x128.Idx) : (win0_2.blk (0 : Fin 1)).view.emb y = y :=
  funext fun a => Fin.ext (win0_2.rect_emb_val_of_index_zero (0 : Fin 1) a (by fin_cases a <;> rfl) y)

/-- Each device stages its whole arguments, -/
theorem xs_eq (c : Dev nD) : xs m c = m ((c : Thread nD τ).loc main_arg0) := by
  funext y
  exact congrArg (m ((c : Thread nD τ).loc main_arg0)) (blk_emb_0 y)
theorem ws_eq (c : Dev nD) : ws m c = m ((c : Thread nD τ).loc main_arg1) := by
  funext y
  exact congrArg (m ((c : Thread nD τ).loc main_arg1)) (blk_emb_1 y)

theorem one_flush : ∀ t t' : Fin cfg0.N, (cfg0.win (2 : Fin 3)).flush t = true → (cfg0.win (2 : Fin 3)).flush t' = true → t ≠ t' →
    Disjoint ((cfg0.win (2 : Fin 3)).blk t).view.set ((cfg0.win (2 : Fin 3)).blk t').view.set :=
  fun t t' _ _ h => absurd ((fin_N0 t).trans (fin_N0 t').symm) h

/-- and its result array ends at its columns of the result. -/
theorem result_eq (c : Dev nD) : finalA m ρ c (2 : Fin 3) = resT (xs m) (ws m) c := by
  funext y
  have h := (dats (F := F) m ρ 0 c).arrAt_emb_eq_flushed (2 : Fin 3) one_flush (0 : Fin 1) (by rfl) y
  refine (congrArg (finalA m ρ c (2 : Fin 3)) (blk_emb_2 y).symm).trans (h.trans ?_)
  rfl

end Cert.KProof

end
-- ==== Proof.Values.lean ====
/-
The values over the extended reals: the product, its greatest magnitude and the quantised result, of the kernel and of the reference.
-/
module

public import proofs.«01_k».proof.Proof.Geom
public import proofs.«01_k».proof.Proof.Gen.ReferenceIdeal.Skeleton
public import Idealize.ShloMosaic.PureOps.Reduce
public import Idealize.ShloMosaic.PureOps.Ideal.Laws
public import Idealize.ShloMosaic.Lib.Pointwise.Contract
public import Idealize.ShloMosaic.Lib.Pipeline.Value

@[expose] public section

noncomputable section

namespace Cert.KProof

open Idealize.ShloMosaic hiding ix2
open Idealize.ShloMosaic.ValueIdx

/-- A rank-two array of extended reals. -/
abbrev Arr (a b : ℕ) : Type := FVec Ideal ⟨2, ![a, b]⟩ .f32

/-- The rows of `x` against the columns of `w`. -/
def prod {a k b : ℕ} (x : Arr a k) (w : Arr k b) : Arr a b := fun i => ∑ l : Fin k, x (ix2 (i 0) l) * w (ix2 l (i 1))

/-- The greatest magnitude of an array. -/
def top {s : Shape} (y : FVec Ideal s .f32) : EReal := Finset.univ.sup (absf y)

/-- One number through the quantiser at scale `s` and back. -/
def quant (s y : EReal) : EReal :=
  min (Ideal.ofBits .f32 0x43E00000#32) (max (Ideal.ofBits .f32 0xC3E00000#32) (Ideal.div y s)) * s

/-- The scale of an array of greatest magnitude `t`. -/
def scaleOf (t : EReal) : EReal := Ideal.div t (Ideal.ofBits .f32 0x43E00000#32)

/-- The word that the maxima start from is −∞. -/
theorem neg_inf : (FloatOps.ofBits (F := Ideal) .f32 0xFF800000#32 : EReal) = ⊥ := by
  show Ideal.ofBits .f32 0xFF800000#32 = ⊥
  simp [Ideal.ofBits, Ideal.ieee]

/-! ## Greatest elements -/

theorem fold_sup {ι : Type} (S : Finset ι) (f : ι → EReal) :
    S.fold (FloatOps.maximumf (F := Ideal) (φ := .f32)) (⊥ : EReal) f = S.sup f := rfl

/-- The printed maximum of a whole array: one element is left to reduce into. -/
theorem max_all {s s' t u : Shape} {axes : List (Fin s'.rank)} (x : FVec Ideal s .f32) (h₁ : s.ShapeCasts s') (h : s'.Reduces axes t)
    (ht : ∀ j j' : t.Idx, j = j') (hφ : FKind.Formats .f32) (hacc : (0xFF800000#32 : BitVec 32) = FKind.maximumf.neutral .f32 hφ)
    (h₂ : t.ShapeCasts u) (pos : Fin u.rank → ℕ) (h₃ : ∀ c, pos c < u.size c) :
    extractAt pos (shapeCast u (multiReduction (F := Ideal) .maximumf axes t (shapeCast s' x h₁) 0xFF800000#32 h hφ hacc) h₂) h₃ = Finset.univ.sup x := by
  unfold extractAt
  show multiReduction (F := Ideal) .maximumf axes t (shapeCast s' x h₁) 0xFF800000#32 h hφ hacc _ = _
  have e (j : t.Idx) : (Finset.univ.filter fun i => h.drop i = j) = Finset.univ := Finset.filter_true_of_mem fun i _ => ht _ _
  rw [multiReduction_maximumf_eq_fold, neg_inf, fold_sup, e]
  refine le_antisymm (Finset.sup_le fun i _ => ?_) (Finset.sup_le fun i _ => ?_)
  · exact Finset.le_sup (f := x) (Finset.mem_univ (Shape.reshapeEquiv h₁ i))
  · have e := Finset.le_sup (f := shapeCast s' x h₁) (Finset.mem_univ ((Shape.reshapeEquiv h₁).symm i))
    unfold shapeCast at e
    rwa [Equiv.apply_symm_apply] at e

/-- The host's maximum of a whole rank-two array. -/
theorem host_max_all {a b : ℕ} (x : Arr a b) (init : (⟨0, ![]⟩ : Shape).Idx → EReal) (hi : ∀ i, init i = ⊥)
    (h : (⟨2, ![a, b]⟩ : Shape).ReducesTo [0, 1] ⟨0, ![]⟩) (hu : 0 < (⟨0, ![]⟩ : Shape).numel) (j : (⟨0, ![]⟩ : Shape).Idx) :
    Host.reduce (FloatOps.maximumf (F := Ideal) (φ := .f32)) x init h hu j = Finset.univ.sup x := by
  have e : (Finset.univ.filter fun i => h.drop i = j) = Finset.univ := Finset.filter_true_of_mem fun i _ => funext fun c => c.elim0
  rw [Host.reduce_eq_fold, hi, fold_sup, e]

/-! ## The kernel's payloads -/

section
open Cert.KernelIdeal Cert.KernelIdeal.Gen

/-- The product as the kernel computes it is the product, whatever name it goes by. -/
theorem pay1_eq (x : Vec Ideal S256x4096 .f32) (w : Vec Ideal S4096x2048 .f32) : k0_pay1 x w = prod (a := 256) (k := 4096) (b := 2048) x w := by
  unfold k0_pay1
  dsimp only
  rw [shapeCast_self, shapeCast_self]
  funext j
  refine (Ideal.matmul_apply₁_of (a := 1) dot_S256x4096_S4096x2048_S256x2048_1_0_0_1_n_n rfl (K := 4096) rfl x w _ j (fun l => ix2 (j 0) l) (fun l => ix2 l (j 1)) ?_ ?_).trans ?_
  · intro k; funext c; fin_cases c <;> rfl
  · intro k; funext c; fin_cases c <;> rfl
  · rw [show (constant (F := Ideal) S256x2048 .f32 0x00000000#32 j : EReal) = 0 from by
      show Ideal.ofBits .f32 0x00000000#32 = 0
      simp [Ideal.ofBits, Ideal.ieee]]
    exact zero_add _

/-- So is the array that it stores. -/
theorem pay2_eq (x : Vec Ideal S256x4096 .f32) (w : Vec Ideal S4096x2048 .f32) : k0_pay2 x w = prod (a := 256) (k := 4096) (b := 2048) x w := by
  unfold k0_pay2
  dsimp only
  rw [shapeCast_self, pay1_eq]

/-- An array of one element has one index. -/
theorem one_index (j j' : S1.Idx) : j = j' := funext fun c => match c with | ⟨0, _⟩ => Subsingleton.elim (α := Fin 1) _ _

/-- The maximum over a product's elements as printed, -/
theorem max_block (y : FVec Ideal S256x2048 .f32) : extractAt ![0, 0, 0] (shapeCast S1x1x1 (multiReduction (F := Ideal) .maximumf [1, 2] S1
    (shapeCast S1x256x2048 y shapeCasts_S256x2048_S1x256x2048) 0xFF800000#32 reduces_S1x256x2048_S1 (.inl rfl) rfl) shapeCasts_S1_S1x1x1) inpos_S1x1x1_p0_0_0
      = Finset.univ.sup y := max_all y _ _ one_index _ _ _ _ _

/-- and that over the received maxima. -/
theorem max_maxima (y : FVec Ideal S16x128 .f32) : extractAt ![0, 0, 0] (shapeCast S1x1x1 (multiReduction (F := Ideal) .maximumf [1, 2] S1
    (shapeCast S1x16x128 y shapeCasts_S16x128_S1x16x128) 0xFF800000#32 reduces_S1x16x128_S1 (.inl rfl) rfl) shapeCasts_S1_S1x1x1) inpos_S1x1x1_p0_0_0
      = Finset.univ.sup y := max_all y _ _ one_index _ _ _ _ _

/-- Every element of a constant array is the constant. -/
theorem splat_apply {s : Shape} (a : Ideal .f32) (h : s.ShapeCasts s) (i : s.Idx) : shapeCast s (broadcast s a) h i = a := by
  rw [shapeCast_self]
  rfl

/-- The tile's own maximum, sent to every device. -/
theorem pay3_eq (x : Vec Ideal S256x4096 .f32) (w : Vec Ideal S4096x2048 .f32) (i : S1x128.Idx) :
    k0_pay3 x w i = Finset.univ.sup (absf (k0_pay1 (F := Ideal) x w)) := by
  refine Eq.trans ?_ (max_block _)
  unfold k0_pay3
  exact splat_apply _ _ i

/-- The scale: the greatest of the maxima over 448. -/
theorem pay19_eq (v : Vec Ideal S16x128 .f32) : k0_pay19 v = scaleOf (Finset.univ.sup v) := congrArg scaleOf (max_maxima v)

/-- The last step quantises every element. -/
theorem pay20_eq (s : EReal) (v : Vec Ideal S4096x128 .f32) (i : S4096x128.Idx) : k0_pay20 (F := Ideal) s v i = quant s (v i) := by
  unfold k0_pay20
  rw [shapeCast_self]
  rfl

end

/-- The reference's quantiser. -/
theorem ref_pay_eq (s : Vec Ideal Cert.ReferenceIdeal.S1x1 .f32) (y : Vec Ideal Cert.ReferenceIdeal.S4096x2048 .f32) (i : Cert.ReferenceIdeal.S4096x2048.Idx) :
    Cert.ReferenceIdeal.Gen.k0_pay1 (F := Ideal) s y i = quant (s (ix2 0 0)) (y i) := by
  unfold Cert.ReferenceIdeal.Gen.k0_pay1
  rw [shapeCast_self]
  refine congrArg (fun t => quant t (y i)) (congrArg s (funext fun c => ?_))
  fin_cases c <;> rfl

end Cert.KProof

end
-- ==== Proof.RefValue.lean ====
/-
The reference's array: the product, quantised at its greatest magnitude over 448 and back.
-/
module

public import proofs.«01_k».proof.Proof.Values
public import proofs.«01_k».proof.Proof.Gen.ReferenceIdeal.Value

@[expose] public section

noncomputable section

namespace Cert.KProof

open Cert.ReferenceIdeal Cert.ReferenceIdeal.Gen
open Idealize.ShloMosaic hiding ix2
open Idealize.ShloMosaic.TcCoe
open Idealize.ShloMosaic.ValueIdx
open Idealize.ShloMosaic.Pipeline (Dat Cfg Window)

/-- The product as the host line prints it, -/
def hostProd (x : FVec Ideal S4096x4096 .f32) (w : FVec Ideal S4096x2048 .f32) : FVec Ideal S4096x2048 .f32 :=
  Host.dotGeneral dot_S4096x4096_S4096x2048_S4096x2048_1_0_0_1_n_n none x w

/-- which is the product. -/
theorem hostProd_eq (x : FVec Ideal S4096x4096 .f32) (w : FVec Ideal S4096x2048 .f32) : hostProd x w = prod (a := 4096) (k := 4096) (b := 2048) x w := by
  funext j
  unfold hostProd Host.dotGeneral
  rw [Ideal.dotGeneral_def]
  refine (Ideal.matmul_apply₁_of (a := 1) dot_S4096x4096_S4096x2048_S4096x2048_1_0_0_1_n_n rfl (K := 4096) rfl x w _ j (fun l => ix2 (j 0) l) (fun l => ix2 l (j 1)) ?_ ?_).trans ?_
  · intro k; funext c; fin_cases c <;> rfl
  · intro k; funext c; fin_cases c <;> rfl
  · exact zero_add _

/-- The scale as the host lines print it, laid out as one element. -/
def refScale (y : FVec Ideal S4096x2048 .f32) : FVec Ideal S1x1 .f32 :=
  shapeCast S1x1 (Host.divf (Host.reduce (FloatOps.maximumf (F := Ideal) (φ := .f32)) (Host.absf y) (constant S_ .f32 0xFF800000#32) reducesTo_S4096x2048_S_d0_1 h_S_)
    (constant S_ .f32 0x43E00000#32)) shapeCasts_S_S1x1

/-- It is the greatest magnitude over 448. -/
theorem refScale_eq (y : FVec Ideal S4096x2048 .f32) (i : S1x1.Idx) : refScale y i = scaleOf (top y) := by
  unfold refScale shapeCast
  refine congrArg scaleOf ?_
  exact host_max_all (a := 4096) (b := 2048) (absf y) _ (fun _ => neg_inf) _ _ _

variable (m : (ℓ : Loc nD τ sig) → Buf (Elt Ideal) ℓ)

/-- The call's first argument is the product, -/
theorem entry_prod (c : Dev nD) : V m c main_v0 = hostProd (m ((c : Thread nD τ).loc main_arg0)) (m ((c : Thread nD τ).loc main_arg1)) := by
  unfold hostProd
  unfold_abbrev_sides
  after_results
  rfl

/-- its second the scale. -/
theorem entry_scale (c : Dev nD) : V m c main_v4 = refScale (hostProd (m ((c : Thread nD τ).loc main_arg0)) (m ((c : Thread nD τ).loc main_arg1))) := by
  unfold refScale hostProd
  unfold_abbrev_sides
  after_results
  rfl

/-- Each of the call's windows is its whole array. -/
theorem ref_emb_0 (y : S4096x2048.Idx) : (win0_0.blk (0 : Fin 1)).view.emb y = y :=
  funext fun a => Fin.ext (win0_0.rect_emb_val_of_index_zero (0 : Fin 1) a (by fin_cases a <;> rfl) y)
theorem ref_emb_1 (y : S1x1.Idx) : (win0_1.blk (0 : Fin 1)).view.emb y = y :=
  funext fun a => Fin.ext (win0_1.rect_emb_val_of_index_zero (0 : Fin 1) a (by fin_cases a <;> rfl) y)
theorem ref_emb_2 (y : S4096x2048.Idx) : (win0_2.blk (0 : Fin 1)).view.emb y = y :=
  funext fun a => Fin.ext (win0_2.rect_emb_val_of_index_zero (0 : Fin 1) a (by fin_cases a <;> rfl) y)

/-- So the call reads the product -/
theorem iblk0_eq (c : Dev nD) : iblk m c 0 (0 : Fin 1) = V m c main_v0 := by
  funext y
  exact congrArg (V m c main_v0) (ref_emb_0 y)
/-- and the scale whole, -/
theorem iblk1_eq (c : Dev nD) : iblk m c 1 (0 : Fin 1) = V m c main_v4 := by
  funext y
  exact congrArg (V m c main_v4) (ref_emb_1 y)

/-- and stores the whole result. -/
theorem out_eq (y : Vec Ideal S4096x2048 .f32) (s : Vec Ideal S1x1 .f32) : out0_2 (F := Ideal) y s = k0_pay1 s y := by
  have z : (![0, 0] : Fin 2 → ℕ) = fun _ => 0 := by funext a; fin_cases a <;> rfl
  unfold out0_2
  rw [View.canon_unit_zero z, View.ld_unit_zero z, View.ld_unit_zero z]

/-- The reference's result, index by index. -/
theorem ref_value (c : Dev nD) (i : S4096x2048.Idx) :
    (dats (F := Ideal) m 0 c).arrAt 2 cfg0.N i
      = quant (scaleOf (top (prod (a := 4096) (k := 4096) (b := 2048) (m ((c : Thread nD τ).loc main_arg0)) (m ((c : Thread nD τ).loc main_arg1)))))
          (prod (a := 4096) (k := 4096) (b := 2048) (m ((c : Thread nD τ).loc main_arg0)) (m ((c : Thread nD τ).loc main_arg1)) i) := by
  have h := (dats (F := Ideal) m 0 c).arrAt_emb_eq_flushed (2 : Fin 3) (Value.disjoint2) (0 : Fin 1) (by rfl) i
  refine (congrArg ((dats (F := Ideal) m 0 c).arrAt 2 cfg0.N) (ref_emb_2 i).symm).trans (h.trans ?_)
  show (dats (F := Ideal) m 0 c).flushed 2 (0 : Fin 1) i = _
  refine (congrFun (Value.flushed2 m c (0 : Fin 1)) i).trans ?_
  show out0_2 (iblk m c 0 (0 : Fin 1)) (iblk m c 1 (0 : Fin 1)) i = _
  rw [iblk0_eq, iblk1_eq, out_eq, ref_pay_eq, entry_scale, refScale_eq, entry_prod, hostProd_eq]

end Cert.KProof

end
-- ==== Proof.Algebraic.lean ====
/-
The values agree: each device's result is its columns of the reference's result.
-/
module

public import proofs.«01_k».proof.Proof.Frames
public import proofs.«01_k».proof.Proof.Arrays
public import proofs.«01_k».proof.Proof.RefValue

@[expose] public section

noncomputable section

namespace Cert.KProof

open Idealize.ShloMosaic hiding ix2
open Idealize.ShloMosaic.TcCoe
open Idealize.ShloMosaic.ValueIdx
open Idealize.SL.Sem

section
open Cert.KernelIdeal Cert.KernelIdeal.Gen

variable (x : Arr 4096 4096) (w : Arr 4096 2048)

/-- Device `d`'s rows of `x`. -/
def rowsOf (d : Dev nD) : Vec Ideal S256x4096 .f32 := Layout.block ⟨2, ![256, 4096]⟩ ⟨2, ![4096, 4096]⟩ 0 16 d x

/-- A product of some rows is those rows of the product. -/
theorem tile_apply (d : Dev nD) (i : S256x2048.Idx) (j : S4096x2048.Idx) (h₀ : (j 0).val = 256 * d.val + (i 0).val) (h₁ : (j 1).val = (i 1).val) :
    prod (a := 256) (k := 4096) (b := 2048) (rowsOf x d) w i = prod (a := 4096) (k := 4096) (b := 2048) x w j := by
  refine Finset.sum_congr rfl fun l _ => ?_
  refine congrArg₂ (fun a b : EReal => a * b) (congrArg x (funext fun a => ?_)) (congrArg w (funext fun a => ?_))
  · match a with
    | ⟨0, _⟩ => exact Fin.ext (show d.val * 256 + (i 0).val = (j 0).val by omega)
    | ⟨1, _⟩ => rfl
  · match a with
    | ⟨0, _⟩ => rfl
    | ⟨1, _⟩ => exact Fin.ext h₁.symm

/-- The device whose tile an element of the product is in. -/
def ownerOf (j : S4096x2048.Idx) : Dev nD := ⟨(j 0).val / 256, by have : (j 0).val < 4096 := (j 0).isLt; show _ < 16; omega⟩
/-- Its index there. -/
def withinOf (j : S4096x2048.Idx) : S256x2048.Idx := ix2 ⟨(j 0).val % 256, Nat.mod_lt _ (by decide)⟩ (j 1)

/-- An element of the product is that device's, at that index. -/
theorem tile_owner (j : S4096x2048.Idx) :
    prod (a := 256) (k := 4096) (b := 2048) (rowsOf x (ownerOf j)) w (withinOf j) = prod (a := 4096) (k := 4096) (b := 2048) x w j :=
  tile_apply x w (ownerOf j) (withinOf j) j (show (j 0).val = 256 * ((j 0).val / 256) + (j 0).val % 256 by omega) rfl

/-- Row `o` of the maxima is the greatest magnitude of the tile of the device `o` back. -/
theorem maxima_apply (c : Dev nD) (i : S16x128.Idx) :
    aT (F := Ideal) (rowsOf x) (fun _ => w) c i = top (prod (a := 256) (k := 4096) (b := 2048) (rowsOf x (bwd c (i 0))) w) :=
  (pay3_eq _ _ _).trans (congrArg top (pay1_eq _ _))

/-- The greatest of the maxima a device has received is the greatest magnitude of the whole product. -/
theorem maxima_sup (c : Dev nD) : Finset.univ.sup (aT (F := Ideal) (rowsOf x) (fun _ => w) c) = top (prod (a := 4096) (k := 4096) (b := 2048) x w) := by
  refine le_antisymm (Finset.sup_le fun i _ => ?_) (Finset.sup_le fun j _ => ?_)
  · rw [maxima_apply]
    refine Finset.sup_le fun y _ => ?_
    have hy : (y 0).val < 256 := (y 0).isLt
    have hd := dev_lt (bwd c (i 0))
    let j : S4096x2048.Idx := ix2 ⟨256 * (bwd c (i 0)).val + (y 0).val, by omega⟩ (y 1)
    have e := tile_apply x w (bwd c (i 0)) y j rfl rfl
    refine le_trans (le_of_eq ?_) (Finset.le_sup (f := absf (prod (a := 4096) (k := 4096) (b := 2048) x w)) (Finset.mem_univ j))
    exact congrArg (fun t : EReal => max t (-t)) e
  · let i : S16x128.Idx := ix2 ((aback c).symm (ownerOf j)) 0
    refine le_trans ?_ (Finset.le_sup (f := aT (F := Ideal) (rowsOf x) (fun _ => w) c) (Finset.mem_univ i))
    rw [maxima_apply]
    have hb : bwd c (i 0) = ownerOf j := (aback c).apply_symm_apply (ownerOf j)
    rw [hb]
    refine le_trans (le_of_eq ?_) (Finset.le_sup (f := absf (prod (a := 256) (k := 4096) (b := 2048) (rowsOf x (ownerOf j)) w)) (Finset.mem_univ (withinOf j)))
    exact congrArg (fun t : EReal => max t (-t)) (tile_owner x w j).symm

/-- The kernel's result, index by index. -/
theorem kernel_value (c : Dev nD) (i : S4096x128.Idx) (j : S4096x2048.Idx) (h₀ : (j 0).val = (i 0).val) (h₁ : (j 1).val = 128 * c.val + (i 1).val) :
    resT (F := Ideal) (rowsOf x) (fun _ => w) c i
      = quant (scaleOf (top (prod (a := 4096) (k := 4096) (b := 2048) x w))) (prod (a := 4096) (k := 4096) (b := 2048) x w j) := by
  unfold resT
  rw [pay20_eq, pay19_eq, maxima_sup]
  refine congrArg (quant _) ?_
  unfold oT yT
  rw [pay2_eq]
  refine tile_apply x w _ _ j ?_ ?_
  · show (j 0).val = 256 * ((i 0).val / 256) + (i 0).val % 256
    omega
  · exact h₁

end

/-- Over the extended reals every device's result is its columns of the reference's. -/
theorem algebraic : Cert.algebraic_KernelIdeal_ReferenceIdeal := by
  intro m ρ m' ρ' _ h
  have hx : xs m = rowsOf (m' (((0 : Dev Cert.ReferenceIdeal.nD).tc : Thread Cert.ReferenceIdeal.nD Cert.ReferenceIdeal.τ).loc Cert.ReferenceIdeal.main_arg0)) :=
    funext fun c => (xs_eq m c).trans (h c).1
  have hw : ws m = fun _ => m' (((0 : Dev Cert.ReferenceIdeal.nD).tc : Thread Cert.ReferenceIdeal.nD Cert.ReferenceIdeal.τ).loc Cert.ReferenceIdeal.main_arg1) :=
    funext fun c => (ws_eq m c).trans (h c).2
  refine ⟨(Cert.ReferenceIdeal.Gen.dats (F := Ideal) m' 0 0).arrAt 2 Cert.ReferenceIdeal.cfg0.N, ?_, ?_⟩
  · refine (θ_run _ _ _).mono (fun r hr c => ⟨?_, (hr.1 c (0 : Fin 3)).trans (kept_x m ρ c), (hr.1 c (1 : Fin 3)).trans (kept_w m ρ c)⟩) (run_main m ρ)
    refine (hr.1 c (2 : Fin 3)).trans ((result_eq m ρ c).trans ?_)
    rw [hx, hw]
    funext i
    refine (kernel_value _ _ c i _ rfl ?_).trans (ref_value m' 0 _).symm
    exact congrArg (· + (i 1).val) (Nat.mul_comm _ _)
  · exact (θ_run _ _ _).mono (fun r hr => hr 0) (Cert.ReferenceIdeal.Value.run_blocks m' ρ')

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KProof.frame_kernel, Cert.KProof.frame_kernelIdeal, Cert.KProof.frame_referenceIdeal, trivial, Cert.KProof.algebraic⟩

end Cert.Proof

end
